-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S8x32x1024 : Shape := ⟨3, ![8, 32, 1024]⟩
abbrev S32x32x32 : Shape := ⟨3, ![32, 32, 32]⟩
abbrev S32x32x1024 : Shape := ⟨3, ![32, 32, 1024]⟩
abbrev S24x32x1024 : Shape := ⟨3, ![24, 32, 1024]⟩
abbrev S6x32x1024 : Shape := ⟨3, ![6, 32, 1024]⟩
abbrev S_ : Shape := ⟨0, ![]⟩
abbrev S4 : Shape := ⟨1, ![4]⟩
abbrev S8x32x32 : Shape := ⟨3, ![8, 32, 32]⟩
abbrev S256x32 : Shape := ⟨2, ![256, 32]⟩
abbrev S256x1024 : Shape := ⟨2, ![256, 1024]⟩
abbrev S2x4x32x1024 : Shape := ⟨4, ![2, 4, 32, 1024]⟩
abbrev S1x1x32x1024 : Shape := ⟨4, ![1, 1, 32, 1024]⟩
abbrev S1x32x1024 : Shape := ⟨3, ![1, 32, 1024]⟩
abbrev S1 : Shape := ⟨1, ![1]⟩
abbrev S2x32x1024 : Shape := ⟨3, ![2, 32, 1024]⟩
abbrev S2x1x32x1024 : Shape := ⟨4, ![2, 1, 32, 1024]⟩

abbrev nBuf : Space → Nat
  | .hbm => 3
  | .vmem => 13
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S32x1024, .f32⟩
  | .local _ .vmem, ⟨0, _⟩ => ⟨S1024x32, .bf16⟩
  | .local _ .vmem, ⟨1, _⟩ => ⟨S32x1024, .bf16⟩
  | .local _ .vmem, ⟨2, _⟩ => ⟨S32x1024, .f32⟩
  | .local _ .vmem, ⟨3, _⟩ => ⟨S8x32x1024, .f32⟩
  | .local _ .vmem, ⟨4, _⟩ => ⟨S32x32x32, .bf16⟩
  | .local _ .vmem, ⟨5, _⟩ => ⟨S32x32x1024, .bf16⟩
  | .local _ .vmem, ⟨6, _⟩ => ⟨S32x32x1024, .fp8e4m3⟩
  | .local _ .vmem, ⟨7, _⟩ => ⟨S24x32x1024, .bf16⟩
  | .local _ .vmem, ⟨8, _⟩ => ⟨S8x32x1024, .fp8e4m3⟩
  | .local _ .vmem, ⟨9, _⟩ => ⟨S6x32x1024, .bf16⟩
  | .local _ .vmem, ⟨10, _⟩ => ⟨S6x32x1024, .bf16⟩
  | .local _ .vmem, ⟨11, _⟩ => ⟨S32x1024, .bf16⟩
  | .local _ .vmem, ⟨12, _⟩ => ⟨S32x1024, .bf16⟩
  | _, _ => ⟨S1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c1_i32_4 : BitVec 32 := 1#32
  let v11 : BitVec 32 := Scalar.addi v7 c1_i32_4
  let c3_i32_5 : BitVec 32 := 3#32
  let v12 : BitVec 32 := Scalar.andi v11 c3_i32_5
  let v13 : BitVec 32 := Scalar.addi v9 v12
  let c1_i32_20 : BitVec 32 := 1#32
  let v33 : BitVec 32 := Scalar.muli v13 c1_i32_20
  let v34 : BitVec 32 := Scalar.addi c0_i32 v33
  v34.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c2_i32_6 : BitVec 32 := 2#32
  let v14 : BitVec 32 := Scalar.addi v7 c2_i32_6
  let c3_i32_7 : BitVec 32 := 3#32
  let v15 : BitVec 32 := Scalar.andi v14 c3_i32_7
  let v16 : BitVec 32 := Scalar.addi v9 v15
  let c1_i32_22 : BitVec 32 := 1#32
  let v35 : BitVec 32 := Scalar.muli v16 c1_i32_22
  let v36 : BitVec 32 := Scalar.addi c0_i32_23 v35
  v36.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c3_i32_8 : BitVec 32 := 3#32
  let v17 : BitVec 32 := Scalar.addi v7 c3_i32_8
  let c3_i32_9 : BitVec 32 := 3#32
  let v18 : BitVec 32 := Scalar.andi v17 c3_i32_9
  let v19 : BitVec 32 := Scalar.addi v9 v18
  let c1_i32_25 : BitVec 32 := 1#32
  let v37 : BitVec 32 := Scalar.muli v19 c1_i32_25
  let v38 : BitVec 32 := Scalar.addi c0_i32_26 v37
  v38.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_10 : BitVec 32 := 1#32
  let v20 : BitVec 32 := Scalar.addi v3 c1_i32_10
  let c3_i32_11 : BitVec 32 := 3#32
  let v21 : BitVec 32 := Scalar.andi v20 c3_i32_11
  let c3_i32_12 : BitVec 32 := 3#32
  let v22 : BitVec 32 := Scalar.shli v21 c3_i32_12
  let c7_i32 : BitVec 32 := 7#32
  let v4 : BitVec 32 := Scalar.andi v2 c7_i32
  let v23 : BitVec 32 := Scalar.addi v22 v4
  let c1_i32_28 : BitVec 32 := 1#32
  let v39 : BitVec 32 := Scalar.muli v23 c1_i32_28
  let v40 : BitVec 32 := Scalar.addi c0_i32_29 v39
  v40.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_13 : BitVec 32 := 2#32
  let v24 : BitVec 32 := Scalar.addi v3 c2_i32_13
  let c3_i32_14 : BitVec 32 := 3#32
  let v25 : BitVec 32 := Scalar.andi v24 c3_i32_14
  let c3_i32_15 : BitVec 32 := 3#32
  let v26 : BitVec 32 := Scalar.shli v25 c3_i32_15
  let c7_i32 : BitVec 32 := 7#32
  let v4 : BitVec 32 := Scalar.andi v2 c7_i32
  let v27 : BitVec 32 := Scalar.addi v26 v4
  let c1_i32_31 : BitVec 32 := 1#32
  let v41 : BitVec 32 := Scalar.muli v27 c1_i32_31
  let v42 : BitVec 32 := Scalar.addi c0_i32_32 v41
  v42.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_16 : BitVec 32 := 3#32
  let v28 : BitVec 32 := Scalar.addi v3 c3_i32_16
  let c3_i32_17 : BitVec 32 := 3#32
  let v29 : BitVec 32 := Scalar.andi v28 c3_i32_17
  let c3_i32_18 : BitVec 32 := 3#32
  let v30 : BitVec 32 := Scalar.shli v29 c3_i32_18
  let c7_i32 : BitVec 32 := 7#32
  let v4 : BitVec 32 := Scalar.andi v2 c7_i32
  let v31 : BitVec 32 := Scalar.addi v30 v4
  let c1_i32_34 : BitVec 32 := 1#32
  let v43 : BitVec 32 := Scalar.muli v31 c1_i32_34
  let v44 : BitVec 32 := Scalar.addi c0_i32_35 v43
  v44.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v32 : BitVec 32 := Scalar.xori v2 c4_i32
  let c1_i32_37 : BitVec 32 := 1#32
  let v45 : BitVec 32 := Scalar.muli v32 c1_i32_37
  let v46 : BitVec 32 := Scalar.addi c0_i32_38 v45
  v46.toNat
def k0_off1 (d0 : Dev nD) (c1_i32_45 : BitVec 32) : Fin 3 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v55 : BitVec 32 := Scalar.addi v3 c1_i32_45
  let c3_i32_46 : BitVec 32 := 3#32
  let v56 : BitVec 32 := Scalar.andi v55 c3_i32_46
  let v57 : BitVec 32 := Scalar.muli c8_i32 v56
  let v58 : Index := Scalar.indexCast v57
  let c0_47 : Index := 0#32
  let c0_48 : Index := 0#32
  ![v58.toNat, 0, 0]
def k0_off2 (d0 : Dev nD) (c0_i32_50 : BitVec 32) (c1_i32_45 : BitVec 32) (c0_i32_51 : BitVec 32) : Fin 3 → Nat :=
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v55 : BitVec 32 := Scalar.addi v3 c1_i32_45
  let c3_i32_46 : BitVec 32 := 3#32
  let v56 : BitVec 32 := Scalar.andi v55 c3_i32_46
  let v66 : BitVec 32 := Scalar.muli c2_i32_49 v56
  let v67 : BitVec 32 := Scalar.addi c0_i32_50 v66
  let v68 : BitVec 32 := Scalar.addi v67 c0_i32_51
  let v69 : Index := Scalar.indexCast v68
  let c0_52 : Index := 0#32
  let c0_53 : Index := 0#32
  ![v69.toNat, 0, 0]
def k0_off3 (d0 : Dev nD) (c1_i32_128 : BitVec 32) (c1_i32_45 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1 : BitVec 32 := 3#32
  let v7 : BitVec 32 := Scalar.andi v2 c3_i32_1
  let v223 : BitVec 32 := Scalar.addi v7 c1_i32_128
  let c3_i32_129 : BitVec 32 := 3#32
  let v224 : BitVec 32 := Scalar.andi v223 c3_i32_129
  let c8_i32_130 : BitVec 32 := 8#32
  let v225 : BitVec 32 := Scalar.muli v224 c8_i32_130
  let c2_i32_131 : BitVec 32 := 2#32
  let c3_i32 : BitVec 32 := 3#32
  let v3 : BitVec 32 := Scalar.shrsi v2 c3_i32
  let v55 : BitVec 32 := Scalar.addi v3 c1_i32_45
  let c3_i32_46 : BitVec 32 := 3#32
  let v56 : BitVec 32 := Scalar.andi v55 c3_i32_46
  let v226 : BitVec 32 := Scalar.muli c2_i32_131 v56
  let v227 : BitVec 32 := Scalar.addi v225 v226
  let c0_i32_138 : BitVec 32 := 0#32
  let c0_i32_139 : BitVec 32 := 0#32
  ![v227.toNat, 0, 0]
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c1_i32_128 : BitVec 32 := 1#32
  let v223 : BitVec 32 := Scalar.addi v7 c1_i32_128
  let c3_i32_129 : BitVec 32 := 3#32
  let v224 : BitVec 32 := Scalar.andi v223 c3_i32_129
  let v228 : BitVec 32 := Scalar.addi v9 v224
  let c1_i32_133 : BitVec 32 := 1#32
  let v229 : BitVec 32 := Scalar.muli v228 c1_i32_133
  let v230 : BitVec 32 := Scalar.addi c0_i32_134 v229
  v230.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c2_i32_140 : BitVec 32 := 2#32
  let v235 : BitVec 32 := Scalar.addi v7 c2_i32_140
  let c3_i32_141 : BitVec 32 := 3#32
  let v236 : BitVec 32 := Scalar.andi v235 c3_i32_141
  let v240 : BitVec 32 := Scalar.addi v9 v236
  let c1_i32_145 : BitVec 32 := 1#32
  let v241 : BitVec 32 := Scalar.muli v240 c1_i32_145
  let v242 : BitVec 32 := Scalar.addi c0_i32_146 v241
  v242.toNat
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c3_i32_152 : BitVec 32 := 3#32
  let v247 : BitVec 32 := Scalar.addi v7 c3_i32_152
  let c3_i32_153 : BitVec 32 := 3#32
  let v248 : BitVec 32 := Scalar.andi v247 c3_i32_153
  let v252 : BitVec 32 := Scalar.addi v9 v248
  let c1_i32_157 : BitVec 32 := 1#32
  let v253 : BitVec 32 := Scalar.muli v252 c1_i32_157
  let v254 : BitVec 32 := Scalar.addi c0_i32_158 v253
  v254.toNat
def k0_off4 (d0 : Dev nD) (c1_i32_45 : BitVec 32) : Fin 3 → Nat :=
  let c2_i32_167 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v55 : BitVec 32 := Scalar.addi v3 c1_i32_45
  let c3_i32_46 : BitVec 32 := 3#32
  let v56 : BitVec 32 := Scalar.andi v55 c3_i32_46
  let v273 : BitVec 32 := Scalar.muli c2_i32_167 v56
  let v274 : Index := Scalar.indexCast v273
  let c0_168 : Index := 0#32
  let c0_169 : Index := 0#32
  ![v274.toNat, 0, 0]
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c1_i32_256 : BitVec 32 := 1#32
  let v446 : BitVec 32 := Scalar.addi v7 c1_i32_256
  let c3_i32_257 : BitVec 32 := 3#32
  let v447 : BitVec 32 := Scalar.andi v446 c3_i32_257
  let v451 : BitVec 32 := Scalar.addi v9 v447
  let c1_i32_261 : BitVec 32 := 1#32
  let v452 : BitVec 32 := Scalar.muli v451 c1_i32_261
  let v453 : BitVec 32 := Scalar.addi c0_i32_262 v452
  v453.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c2_i32_267 : BitVec 32 := 2#32
  let v458 : BitVec 32 := Scalar.addi v7 c2_i32_267
  let c3_i32_268 : BitVec 32 := 3#32
  let v459 : BitVec 32 := Scalar.andi v458 c3_i32_268
  let v463 : BitVec 32 := Scalar.addi v9 v459
  let c1_i32_272 : BitVec 32 := 1#32
  let v464 : BitVec 32 := Scalar.muli v463 c1_i32_272
  let v465 : BitVec 32 := Scalar.addi c0_i32_273 v464
  v465.toNat
def k0_dev13 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c3_i32_279 : BitVec 32 := 3#32
  let v470 : BitVec 32 := Scalar.addi v7 c3_i32_279
  let c3_i32_280 : BitVec 32 := 3#32
  let v471 : BitVec 32 := Scalar.andi v470 c3_i32_280
  let v475 : BitVec 32 := Scalar.addi v9 v471
  let c1_i32_284 : BitVec 32 := 1#32
  let v476 : BitVec 32 := Scalar.muli v475 c1_i32_284
  let v477 : BitVec 32 := Scalar.addi c0_i32_285 v476
  v477.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c1_i32_383 : BitVec 32 := 1#32
  let v669 : BitVec 32 := Scalar.addi v7 c1_i32_383
  let c3_i32_384 : BitVec 32 := 3#32
  let v670 : BitVec 32 := Scalar.andi v669 c3_i32_384
  let v674 : BitVec 32 := Scalar.addi v9 v670
  let c1_i32_388 : BitVec 32 := 1#32
  let v675 : BitVec 32 := Scalar.muli v674 c1_i32_388
  let v676 : BitVec 32 := Scalar.addi c0_i32_389 v675
  v676.toNat
def k0_dev15 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c2_i32_394 : BitVec 32 := 2#32
  let v681 : BitVec 32 := Scalar.addi v7 c2_i32_394
  let c3_i32_395 : BitVec 32 := 3#32
  let v682 : BitVec 32 := Scalar.andi v681 c3_i32_395
  let v686 : BitVec 32 := Scalar.addi v9 v682
  let c1_i32_399 : BitVec 32 := 1#32
  let v687 : BitVec 32 := Scalar.muli v686 c1_i32_399
  let v688 : BitVec 32 := Scalar.addi c0_i32_400 v687
  v688.toNat
def k0_dev16 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c3_i32_406 : BitVec 32 := 3#32
  let v693 : BitVec 32 := Scalar.addi v7 c3_i32_406
  let c3_i32_407 : BitVec 32 := 3#32
  let v694 : BitVec 32 := Scalar.andi v693 c3_i32_407
  let v698 : BitVec 32 := Scalar.addi v9 v694
  let c1_i32_411 : BitVec 32 := 1#32
  let v699 : BitVec 32 := Scalar.muli v698 c1_i32_411
  let v700 : BitVec 32 := Scalar.addi c0_i32_412 v699
  v700.toNat
def k0_dev17 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c1_i32_510 : BitVec 32 := 1#32
  let v892 : BitVec 32 := Scalar.addi v7 c1_i32_510
  let c3_i32_511 : BitVec 32 := 3#32
  let v893 : BitVec 32 := Scalar.andi v892 c3_i32_511
  let v897 : BitVec 32 := Scalar.addi v9 v893
  let c1_i32_515 : BitVec 32 := 1#32
  let v898 : BitVec 32 := Scalar.muli v897 c1_i32_515
  let v899 : BitVec 32 := Scalar.addi c0_i32_516 v898
  v899.toNat
def k0_dev18 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c2_i32_521 : BitVec 32 := 2#32
  let v904 : BitVec 32 := Scalar.addi v7 c2_i32_521
  let c3_i32_522 : BitVec 32 := 3#32
  let v905 : BitVec 32 := Scalar.andi v904 c3_i32_522
  let v909 : BitVec 32 := Scalar.addi v9 v905
  let c1_i32_526 : BitVec 32 := 1#32
  let v910 : BitVec 32 := Scalar.muli v909 c1_i32_526
  let v911 : BitVec 32 := Scalar.addi c0_i32_527 v910
  v911.toNat
def k0_dev19 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2 : BitVec 32 := 2#32
  let v8 : BitVec 32 := Scalar.shrsi v2 c2_i32_2
  let c2_i32_3 : BitVec 32 := 2#32
  let v9 : BitVec 32 := Scalar.shli v8 c2_i32_3
  let c3_i32_1 : BitVec 32 := 3#32
  let v7 : BitVec 32 := Scalar.andi v2 c3_i32_1
  let c3_i32_532 : BitVec 32 := 3#32
  let v916 : BitVec 32 := Scalar.addi v7 c3_i32_532
  let c3_i32_533 : BitVec 32 := 3#32
  let v917 : BitVec 32 := Scalar.andi v916 c3_i32_533
  let v921 : BitVec 32 := Scalar.addi v9 v917
  let c1_i32_537 : BitVec 32 := 1#32
  let v922 : BitVec 32 := Scalar.muli v921 c1_i32_537
  let v923 : BitVec 32 := Scalar.addi c0_i32_538 v922
  v923.toNat
def k0_off5 (d0 : Dev nD) (c1_i32_550 : BitVec 32) (c0_i32_577 : BitVec 32) : Fin 3 → Nat :=
  let c2_i32_576 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v947 : BitVec 32 := Scalar.addi v3 c1_i32_550
  let c3_i32_551 : BitVec 32 := 3#32
  let v948 : BitVec 32 := Scalar.andi v947 c3_i32_551
  let v967 : BitVec 32 := Scalar.muli c2_i32_576 v948
  let v968 : BitVec 32 := Scalar.addi v967 c0_i32_577
  let v969 : Index := Scalar.indexCast v968
  let c0_578 : Index := 0#32
  let c0_579 : Index := 0#32
  ![v969.toNat, 0, 0]
def k0_dev20 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_550 : BitVec 32 := 1#32
  let v947 : BitVec 32 := Scalar.addi v3 c1_i32_550
  let c3_i32_551 : BitVec 32 := 3#32
  let v948 : BitVec 32 := Scalar.andi v947 c3_i32_551
  let c3_i32_605 : BitVec 32 := 3#32
  let v1009 : BitVec 32 := Scalar.shli v948 c3_i32_605
  let c7_i32 : BitVec 32 := 7#32
  let v4 : BitVec 32 := Scalar.andi v2 c7_i32
  let v1010 : BitVec 32 := Scalar.addi v1009 v4
  let c1_i32_606 : BitVec 32 := 1#32
  let v1011 : BitVec 32 := Scalar.muli v1010 c1_i32_606
  let v1012 : BitVec 32 := Scalar.addi c0_i32_607 v1011
  v1012.toNat
def k0_dev21 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_614 : BitVec 32 := 2#32
  let v1015 : BitVec 32 := Scalar.addi v3 c2_i32_614
  let c3_i32_615 : BitVec 32 := 3#32
  let v1016 : BitVec 32 := Scalar.andi v1015 c3_i32_615
  let c3_i32_668 : BitVec 32 := 3#32
  let v1077 : BitVec 32 := Scalar.shli v1016 c3_i32_668
  let c7_i32 : BitVec 32 := 7#32
  let v4 : BitVec 32 := Scalar.andi v2 c7_i32
  let v1078 : BitVec 32 := Scalar.addi v1077 v4
  let c1_i32_669 : BitVec 32 := 1#32
  let v1079 : BitVec 32 := Scalar.muli v1078 c1_i32_669
  let v1080 : BitVec 32 := Scalar.addi c0_i32_670 v1079
  v1080.toNat
def k0_dev22 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_677 : BitVec 32 := 3#32
  let v1083 : BitVec 32 := Scalar.addi v3 c3_i32_677
  let c3_i32_678 : BitVec 32 := 3#32
  let v1084 : BitVec 32 := Scalar.andi v1083 c3_i32_678
  let c3_i32_731 : BitVec 32 := 3#32
  let v1145 : BitVec 32 := Scalar.shli v1084 c3_i32_731
  let c7_i32 : BitVec 32 := 7#32
  let v4 : BitVec 32 := Scalar.andi v2 c7_i32
  let v1146 : BitVec 32 := Scalar.addi v1145 v4
  let c1_i32_732 : BitVec 32 := 1#32
  let v1147 : BitVec 32 := Scalar.muli v1146 c1_i32_732
  let v1148 : BitVec 32 := Scalar.addi c0_i32_733 v1147
  v1148.toNat
def k0_off6 (d0 : Dev nD) (c0_i32_765 : BitVec 32) : Fin 3 → Nat :=
  let c2_i32_764 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1169 : BitVec 32 := Scalar.muli c2_i32_764 v3
  let v1170 : BitVec 32 := Scalar.addi v1169 c0_i32_765
  let v1171 : Index := Scalar.indexCast v1170
  let c0_766 : Index := 0#32
  let c0_767 : Index := 0#32
  ![v1171.toNat, 0, 0]
def k0_off7 (d0 : Dev nD) : Fin 3 → Nat :=
  let c2_i32_815 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1224 : BitVec 32 := Scalar.muli c2_i32_815 v3
  let c1_i32_814 : BitVec 32 := 1#32
  let c2_i32 : BitVec 32 := 2#32
  let v5 : BitVec 32 := Scalar.shrsi v2 c2_i32
  let c1_i32_0 : BitVec 32 := 1#32
  let v6 : BitVec 32 := Scalar.andi v5 c1_i32_0
  let v1223 : BitVec 32 := Scalar.subi c1_i32_814 v6
  let v1225 : BitVec 32 := Scalar.addi v1224 v1223
  let v1226 : Index := Scalar.indexCast v1225
  let c0_816 : Index := 0#32
  let c0_817 : Index := 0#32
  ![v1226.toNat, 0, 0]
def k0_off8 (d0 : Dev nD) : Fin 3 → Nat :=
  let c1_i32_814 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.shrsi v2 c2_i32
  let c1_i32_0 : BitVec 32 := 1#32
  let v6 : BitVec 32 := Scalar.andi v5 c1_i32_0
  let v1223 : BitVec 32 := Scalar.subi c1_i32_814 v6
  let v1229 : Index := Scalar.indexCast v1223
  let c0_818 : Index := 0#32
  let c0_819 : Index := 0#32
  ![v1229.toNat, 0, 0]
def k0_off9 (d0 : Dev nD) (c2_i32_820 : BitVec 32) : Fin 3 → Nat :=
  let c1_i32_814 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.shrsi v2 c2_i32
  let c1_i32_0 : BitVec 32 := 1#32
  let v6 : BitVec 32 := Scalar.andi v5 c1_i32_0
  let v1223 : BitVec 32 := Scalar.subi c1_i32_814 v6
  let v1234 : BitVec 32 := Scalar.addi c2_i32_820 v1223
  let v1235 : Index := Scalar.indexCast v1234
  let c0_821 : Index := 0#32
  let c0_822 : Index := 0#32
  ![v1235.toNat, 0, 0]
def k0_dev23 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_828 : BitVec 32 := 4#32
  let v1250 : BitVec 32 := Scalar.xori v2 c4_i32_828
  let c1_i32_829 : BitVec 32 := 1#32
  let v1251 : BitVec 32 := Scalar.muli v1250 c1_i32_829
  let v1252 : BitVec 32 := Scalar.addi c0_i32_830 v1251
  v1252.toNat
def k0_off10 (d0 : Dev nD) : Fin 3 → Nat :=
  let c2_i32_831 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1253 : BitVec 32 := Scalar.muli c2_i32_831 v3
  let c2_i32 : BitVec 32 := 2#32
  let v5 : BitVec 32 := Scalar.shrsi v2 c2_i32
  let c1_i32_0 : BitVec 32 := 1#32
  let v6 : BitVec 32 := Scalar.andi v5 c1_i32_0
  let v1254 : BitVec 32 := Scalar.addi v1253 v6
  let v1255 : Index := Scalar.indexCast v1254
  let c0_832 : Index := 0#32
  let c0_833 : Index := 0#32
  ![v1255.toNat, 0, 0]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.shrsi v2 c2_i32
  let c1_i32_0 : BitVec 32 := 1#32
  let v6 : BitVec 32 := Scalar.andi v5 c1_i32_0
  let v1258 : Index := Scalar.indexCast v6
  let c0_834 : Index := 0#32
  let c0_835 : Index := 0#32
  ![v1258.toNat, 0, 0]
def k0_off12 (d0 : Dev nD) (c2_i32_836 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.shrsi v2 c2_i32
  let c1_i32_0 : BitVec 32 := 1#32
  let v6 : BitVec 32 := Scalar.andi v5 c1_i32_0
  let v1263 : BitVec 32 := Scalar.addi c2_i32_836 v6
  let v1264 : Index := Scalar.indexCast v1263
  let c0_837 : Index := 0#32
  let c0_838 : Index := 0#32
  ![v1264.toNat, 0, 0]
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KFlat.lean ====
module
public import proofs.«01_k».proof.Proof.KProg
@[expose] public section
set_option maxRecDepth 65536
noncomputable section
namespace Cert.Kernel.Hand
open Cert.Kernel Cert.Kernel.Gen
open Idealize.ShloMosaic Idealize.ShloMosaic.TcCoe Idealize.SL.Sem
variable {F : FTy → Type} [FloatOps F]

set_option maxHeartbeats 4000000 in
theorem body_eq :
  cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  = (do let d0 ← Prog.lift .deviceId; phases d0) := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, phases, signals, readIn, round0, round1, round2, finish, waitS1, waitS2, waitS3, wait1, wait2, part3, part4, opsA, ops2, send2, send1, storeA, loadX, stores1, ops1, semSignalWord, semWaitWord, Prog.lift, Prog.bind_op, Prog.bind_ret, Prog.pure_eq_ret]
  repeat (refine congrArg (Prog.op _) (funext fun _ => ?_))
  rfl

end Cert.Kernel.Hand
end
-- ==== Proof.IProg.lean ====
/-
# The kernel as phases

The printed kernel is one straight line of about three hundred effects, cut into parts at a fixed
number of statements. This module writes the same program as phases with parameters — the round
`k` of the exchange, the column `lc`, the row `b` — and proves the two programs equal, so that each
phase is proved once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal.Hand

open Cert.KernelIdeal Cert.KernelIdeal.Gen
open Idealize.ShloMosaic Idealize.ShloMosaic.TcCoe Idealize.SL.Sem

variable {F : FTy → Type} [FloatOps F]

/-- The programs of this kernel on a device's core. -/
abbrev PR (F : FTy → Type) [FloatOps F] (α : Type) : Type 1 := Prog (TpuEff nD τ sig (Elt F) Λ₀ .tc) α

/-! ## The buffers -/

abbrev xM : Memref sig .tc .vmem S1024x32 .bf16 := Memref.whole cc0_stg0_0
abbrev wM : Memref sig .tc .vmem S32x1024 .bf16 := Memref.whole cc0_stg1_0
abbrev oM : Memref sig .tc .vmem S32x1024 .f32 := Memref.whole cc0_stg2_0
abbrev aM : Memref sig .tc .vmem S8x32x1024 .f32 := Memref.whole cc0_scratch0
abbrev x3M : Memref sig .tc .vmem S32x32x32 .bf16 := Memref.whole cc0_scratch1
abbrev s1M : Memref sig .tc .vmem S32x32x1024 .bf16 := Memref.whole cc0_scratch2
abbrev f1M : Memref sig .tc .vmem S32x32x1024 .fp8e4m3 := Memref.whole cc0_scratch3
abbrev r1M : Memref sig .tc .vmem S24x32x1024 .bf16 := Memref.whole cc0_scratch4
abbrev g1M : Memref sig .tc .vmem S8x32x1024 .fp8e4m3 := Memref.whole cc0_scratch5
abbrev s2M : Memref sig .tc .vmem S6x32x1024 .bf16 := Memref.whole cc0_scratch6
abbrev r2M : Memref sig .tc .vmem S6x32x1024 .bf16 := Memref.whole cc0_scratch7
abbrev s3M : Memref sig .tc .vmem S32x1024 .bf16 := Memref.whole cc0_scratch8
abbrev r3M : Memref sig .tc .vmem S32x1024 .bf16 := Memref.whole cc0_scratch9

/-! ## The semaphores -/

abbrev barS : Sem sig := (SemArray.scalar (sig.barrier 0 rfl) : Sems sig S_).sem
abbrev s1S : DmaSem sig := (cc0_scratch10 : DmaSems sig S_).sem
theorem inbR1 : ∀ k : Fin 4, ∀ a, (![k.val] : Fin 1 → Nat) a + S1.size a ≤ S4.size a := by decide
abbrev r1S (k : Fin 4) : DmaSem sig :=
  (((cc0_scratch11 : DmaSems sig S4).slice (Rect.unit (s := S4) ![k.val] S1.size (inbR1 k))).squeeze S_ squeezes_S1_S_).sem
abbrev s2S : DmaSem sig := (cc0_scratch12 : DmaSems sig S_).sem
abbrev r2S : DmaSem sig := (cc0_scratch13 : DmaSems sig S_).sem
abbrev s3S : DmaSem sig := (cc0_scratch14 : DmaSems sig S_).sem
abbrev r3S : DmaSem sig := (cc0_scratch15 : DmaSems sig S_).sem

/-! ## The rectangles -/

abbrev o2 (d0 : Dev nD) (lc k : Fin 4) (b : Fin 2) : Fin 3 → Nat :=
  k0_off2 d0 (BitVec.ofNat 32 (8 * lc.val)) (BitVec.ofNat 32 (1 + k.val)) (BitVec.ofNat 32 b.val)
abbrev o3 (d0 : Dev nD) (dd : Fin 3) (k : Fin 4) : Fin 3 → Nat :=
  k0_off3 d0 (BitVec.ofNat 32 (1 + dd.val)) (BitVec.ofNat 32 (1 + k.val))

abbrev rX (d0 : Dev nD) (k : Fin 4) : Rect S32x32x32 :=
  Rect.unit (s := S32x32x32) (k0_off1 d0 (BitVec.ofNat 32 (1 + k.val))) S8x32x32.size (k0_off1_inb d0 k)
abbrev rS (d0 : Dev nD) (lc k : Fin 4) (b : Fin 2) : Rect S32x32x1024 :=
  Rect.unit (s := S32x32x1024) (o2 d0 lc k b) S1x32x1024.size (k0_off2_inb d0 lc k b)
abbrev rP (d0 : Dev nD) (dd : Fin 3) (k : Fin 4) : Rect S32x32x1024 :=
  Rect.unit (s := S32x32x1024) (o3 d0 dd k) S2x32x1024.size (k0_off3_inb d0 dd k)
abbrev rA (d0 : Dev nD) (k : Fin 4) : Rect S8x32x1024 :=
  Rect.unit (s := S8x32x1024) (k0_off4 d0 (BitVec.ofNat 32 (1 + k.val))) S2x32x1024.size (k0_off4_inb d0 k)
abbrev rB (d0 : Dev nD) (k : Fin 3) (b : Fin 2) : Rect S8x32x1024 :=
  Rect.unit (s := S8x32x1024) (k0_off5 d0 (BitVec.ofNat 32 (1 + k.val)) (BitVec.ofNat 32 b.val)) S1x32x1024.size (k0_off5_inb d0 k b)
abbrev rC (d0 : Dev nD) (b : Fin 2) : Rect S8x32x1024 :=
  Rect.unit (s := S8x32x1024) (k0_off6 d0 (BitVec.ofNat 32 b.val)) S1x32x1024.size (k0_off6_inb d0 b)

theorem inbHi : ∀ k : Fin 4, ∀ a, (![16 + 2 * k.val, 0, 0] : Fin 3 → Nat) a + S2x32x1024.size a ≤ S24x32x1024.size a := by decide
theorem inbLo : ∀ k : Fin 4, ∀ a, (![2 * k.val, 0, 0] : Fin 3 → Nat) a + S2x32x1024.size a ≤ S24x32x1024.size a := by decide
theorem inbG : ∀ k : Fin 4, ∀ a, (![2 * k.val, 0, 0] : Fin 3 → Nat) a + S2x32x1024.size a ≤ S8x32x1024.size a := by decide
theorem inbS2 : ∀ k : Fin 3, ∀ a, (![2 * k.val, 0, 0] : Fin 3 → Nat) a + S2x32x1024.size a ≤ S6x32x1024.size a := by decide
theorem inbR2 : ∀ k : Fin 3, ∀ a, (![4 - 2 * k.val, 0, 0] : Fin 3 → Nat) a + S2x32x1024.size a ≤ S6x32x1024.size a := by decide
theorem inbHi1 : ∀ (k : Fin 4) (b : Fin 2), ∀ a, (![16 + 2 * k.val + b.val, 0, 0] : Fin 3 → Nat) a + S1x32x1024.size a ≤ S24x32x1024.size a := by decide
theorem inbLo1 : ∀ (k : Fin 4) (b : Fin 2), ∀ a, (![2 * k.val + b.val, 0, 0] : Fin 3 → Nat) a + S1x32x1024.size a ≤ S24x32x1024.size a := by decide
theorem inbG1 : ∀ (k : Fin 4) (b : Fin 2), ∀ a, (![2 * k.val + b.val, 0, 0] : Fin 3 → Nat) a + S1x32x1024.size a ≤ S8x32x1024.size a := by decide
theorem inbS21 : ∀ (k : Fin 3) (b : Fin 2), ∀ a, (![2 * k.val + b.val, 0, 0] : Fin 3 → Nat) a + S1x32x1024.size a ≤ S6x32x1024.size a := by decide

abbrev rHi (k : Fin 4) : Rect S24x32x1024 := Rect.unit (s := S24x32x1024) ![16 + 2 * k.val, 0, 0] S2x32x1024.size (inbHi k)
abbrev rLo (k : Fin 4) : Rect S24x32x1024 := Rect.unit (s := S24x32x1024) ![2 * k.val, 0, 0] S2x32x1024.size (inbLo k)
abbrev rG (k : Fin 4) : Rect S8x32x1024 := Rect.unit (s := S8x32x1024) ![2 * k.val, 0, 0] S2x32x1024.size (inbG k)
abbrev rS2 (k : Fin 3) : Rect S6x32x1024 := Rect.unit (s := S6x32x1024) ![2 * k.val, 0, 0] S2x32x1024.size (inbS2 k)
abbrev rR2 (k : Fin 3) : Rect S6x32x1024 := Rect.unit (s := S6x32x1024) ![4 - 2 * k.val, 0, 0] S2x32x1024.size (inbR2 k)
abbrev rHi1 (k : Fin 4) (b : Fin 2) : Rect S24x32x1024 := Rect.unit (s := S24x32x1024) ![16 + 2 * k.val + b.val, 0, 0] S1x32x1024.size (inbHi1 k b)
abbrev rLo1 (k : Fin 4) (b : Fin 2) : Rect S24x32x1024 := Rect.unit (s := S24x32x1024) ![2 * k.val + b.val, 0, 0] S1x32x1024.size (inbLo1 k b)
abbrev rG1 (k : Fin 4) (b : Fin 2) : Rect S8x32x1024 := Rect.unit (s := S8x32x1024) ![2 * k.val + b.val, 0, 0] S1x32x1024.size (inbG1 k b)
abbrev rS21 (k : Fin 3) (b : Fin 2) : Rect S6x32x1024 := Rect.unit (s := S6x32x1024) ![2 * k.val + b.val, 0, 0] S1x32x1024.size (inbS21 k b)

theorem wHi : ∀ k : Fin 4, (rHi k).WholeWords (EltTy.packing .bf16) := by decide
theorem wLo : ∀ k : Fin 4, (rLo k).WholeWords (EltTy.packing .bf16) := by decide
theorem wG : ∀ k : Fin 4, (rG k).WholeWords (EltTy.packing .fp8e4m3) := by decide
theorem wS2 : ∀ k : Fin 3, (rS2 k).WholeWords (EltTy.packing .bf16) := by decide
theorem wR2 : ∀ k : Fin 3, (rR2 k).WholeWords (EltTy.packing .bf16) := by decide
theorem pS21 : ∀ (k : Fin 3) (b : Fin 2), (rS21 k b).PackedRows (EltTy.packing .bf16) := by decide

/-! ## The slices the copies move -/

abbrev sSrc (d0 : Dev nD) (dd : Fin 3) (k : Fin 4) : Memref sig .tc .vmem S2x32x1024 .bf16 := s1M.slice (rP d0 dd k) (fun _ => rfl)
abbrev fSrc (d0 : Dev nD) (k : Fin 4) : Memref sig .tc .vmem S2x32x1024 .fp8e4m3 := f1M.slice (rP d0 1 k) (fun _ => rfl)
abbrev hiDst (k : Fin 4) : Memref sig .tc .vmem S2x32x1024 .bf16 := r1M.slice (rHi k) (fun _ => rfl)
abbrev loDst (k : Fin 4) : Memref sig .tc .vmem S2x32x1024 .bf16 := r1M.slice (rLo k) (fun _ => rfl)
abbrev gDst (k : Fin 4) : Memref sig .tc .vmem S2x32x1024 .fp8e4m3 := g1M.slice (rG k) (fun _ => rfl)
abbrev s2Src (k : Fin 3) : Memref sig .tc .vmem S2x32x1024 .bf16 := s2M.slice (rS2 k) (fun _ => rfl)
abbrev r2Dst (k : Fin 3) : Memref sig .tc .vmem S2x32x1024 .bf16 := r2M.slice (rR2 k) (fun _ => rfl)

theorem xSrc (d0 : Dev nD) (dd : Fin 3) (k : Fin 4) : (sSrc d0 dd k).view.WordExact :=
  (Memref.isWhole_whole cc0_scratch2).wordExact_slice rfl _ (k0_off3_wordsbf16 d0 dd k)
theorem xfSrc (d0 : Dev nD) (k : Fin 4) : (fSrc d0 k).view.WordExact :=
  (Memref.isWhole_whole cc0_scratch3).wordExact_slice rfl _ (k0_off3_wordsfp8e4m3 d0 1 k)
theorem xHi (k : Fin 4) : (hiDst k).view.WordExact := (Memref.isWhole_whole cc0_scratch4).wordExact_slice rfl _ (wHi k)
theorem xLo (k : Fin 4) : (loDst k).view.WordExact := (Memref.isWhole_whole cc0_scratch4).wordExact_slice rfl _ (wLo k)
theorem xG (k : Fin 4) : (gDst k).view.WordExact := (Memref.isWhole_whole cc0_scratch5).wordExact_slice rfl _ (wG k)
theorem xS2 (k : Fin 3) : (s2Src k).view.WordExact := (Memref.isWhole_whole cc0_scratch6).wordExact_slice rfl _ (wS2 k)
theorem xR2 (k : Fin 3) : (r2Dst k).view.WordExact := (Memref.isWhole_whole cc0_scratch7).wordExact_slice rfl _ (wR2 k)
theorem xS3 : (s3M).view.WordExact := (Memref.isWhole_whole cc0_scratch8).wordExact
theorem xR3 : (r3M).view.WordExact := (Memref.isWhole_whole cc0_scratch9).wordExact

/-! ## The payloads, with the column and the row as parameters -/

theorem slicesLB : ∀ (lc : Fin 4) (b : Fin 2), S2x4x32x1024.Slices ![b.val, lc.val, 0, 0] S1x1x32x1024 := by decide

/-- Column `lc`, row `b` of a round's product. -/
def prodRow (pg : FVec F S2x4x32x1024 .f32) (lc : Fin 4) (b : Fin 2) : FVec F S32x1024 .f32 :=
  shapeCast S32x1024 (extractStridedSlice S1x1x32x1024 ![b.val, lc.val, 0, 0] pg (slicesLB lc b)) shapeCasts_S1x1x32x1024_S32x1024
def payH (pg : FVec F S2x4x32x1024 .f32) (lc : Fin 4) (b : Fin 2) : FVec F S1x32x1024 .bf16 :=
  shapeCast S1x32x1024 (truncf .bf16 (prodRow pg lc b) bitsLt_bf16_f32) shapeCasts_S32x1024_S1x32x1024
def payQ (pg : FVec F S2x4x32x1024 .f32) (lc : Fin 4) (b : Fin 2) : FVec F S1x32x1024 .fp8e4m3 :=
  shapeCast S1x32x1024 (truncf .fp8e4m3 (prodRow pg lc b) bitsLt_fp8e4m3_f32) shapeCasts_S32x1024_S1x32x1024

/-- The word the kernel computes for a device's place in its square. -/
abbrev qword (d0 : Dev nD) : BitVec 32 := Scalar.andi (Scalar.remsi (Scalar.divsi (Dev.word d0) 1#32) 32#32) 3#32
/-- The device's own column of a round's product, both rows. -/
def payA (d0 : Dev nD) (pg : FVec F S2x4x32x1024 .f32) : FVec F S2x32x1024 .f32 :=
  k0_pay26 (qword d0) (k0_pay24 (qword d0) pg) (k0_pay25 (qword d0) pg) 2#32

/-! ## The phases -/

def ops1 (d0 : Dev nD) (pg : FVec F S2x4x32x1024 .f32) (k lc : Fin 4) (b : Fin 2) : PR F PUnit := do
  let _v ← Prog.lift (.load s1M (rS d0 lc k b).toLoadRect (View.loadsAt_vmem h_S1x32x1024))
  Prog.lift (.store s1M (rS d0 lc k b) (payH pg lc b) Finset.univ (View.stores_vmem h_S1x32x1024 ((Memref.isWhole_whole cc0_scratch2).storeExact_slice rfl _ (k0_off2_packedbf16 d0 lc k b)) (fun _ => rfl)) (.inl rfl))
  let _v ← Prog.lift (.load f1M (rS d0 lc k b).toLoadRect (View.loadsAt_vmem h_S1x32x1024))
  Prog.lift (.store f1M (rS d0 lc k b) (payQ pg lc b) Finset.univ (View.stores_vmem h_S1x32x1024 ((Memref.isWhole_whole cc0_scratch3).storeExact_slice rfl _ (k0_off2_packedfp8e4m3 d0 lc k b)) (fun _ => rfl)) (.inl rfl))

def stores1 (d0 : Dev nD) (pg : FVec F S2x4x32x1024 .f32) (k : Fin 4) : PR F PUnit := do
  ops1 d0 pg k 0 0
  ops1 d0 pg k 0 1
  ops1 d0 pg k 1 0
  ops1 d0 pg k 1 1
  ops1 d0 pg k 2 0
  ops1 d0 pg k 2 1
  ops1 d0 pg k 3 0
  ops1 d0 pg k 3 1

def loadX (d0 : Dev nD) (k : Fin 4) : PR F (Vec F S8x32x32 .bf16) :=
  Prog.lift (.load x3M (rX d0 k).toLoadRect (View.loadsAt_vmem h_S8x32x32))

def send1 (d0 n1 n2 n3 : Dev nD) (k : Fin 4) : PR F PUnit := do
  Prog.lift (.enqueueDma (sSrc d0 0 k) (.remote (Dev.tc n1) (hiDst k) (.dma s1S)) (.dma (r1S k)) (xSrc d0 0 k) (xHi k) ⟨⟨rfl, Or.inl rfl⟩, trivial⟩)
  Prog.lift (.enqueueDma (fSrc d0 k) (.remote (Dev.tc n2) (gDst k) (.dma s1S)) (.dma (r1S k)) (xfSrc d0 k) (xG k) ⟨⟨rfl, Or.inl rfl⟩, trivial⟩)
  Prog.lift (.enqueueDma (sSrc d0 2 k) (.remote (Dev.tc n3) (loDst k) (.dma s1S)) (.dma (r1S k)) (xSrc d0 2 k) (xLo k) ⟨⟨rfl, Or.inl rfl⟩, trivial⟩)

def storeA (d0 : Dev nD) (pg : FVec F S2x4x32x1024 .f32) (k : Fin 4) : PR F PUnit := do
  let _v ← Prog.lift (.load aM (rA d0 k).toLoadRect (View.loadsAt_vmem h_S2x32x1024))
  Prog.lift (.store aM (rA d0 k) (payA d0 pg) Finset.univ (View.stores_vmem_bits_univ h_S2x32x1024 rfl) (.inl rfl))

def wait1 (d0 : Dev nD) (k : Fin 4) : PR F PUnit := do
  Prog.lift (.waitDma2 (r1S k) (sSrc d0 0 k) (hiDst k) (xSrc d0 0 k) (xHi k))
  Prog.lift (.waitDma2 (r1S k) (fSrc d0 k) (gDst k) (xfSrc d0 k) (xG k))
  Prog.lift (.waitDma2 (r1S k) (sSrc d0 2 k) (loDst k) (xSrc d0 2 k) (xLo k))

def k3 (k : Fin 3) : Fin 4 := ⟨k.val, by omega⟩

def ops2 (d0 : Dev nD) (k : Fin 3) (b : Fin 2) : PR F PUnit := do
  let va ← Prog.lift (.load aM (rB d0 k b).toLoadRect (View.loadsAt_vmem h_S1x32x1024))
  let vl ← Prog.lift (.load r1M (rLo1 (k3 k) b).toLoadRect (View.loadsAt_vmem h_S1x32x1024))
  let vg ← Prog.lift (.load g1M (rG1 (k3 k) b).toLoadRect (View.loadsAt_vmem h_S1x32x1024))
  let vh ← Prog.lift (.load r1M (rHi1 (k3 k) b).toLoadRect (View.loadsAt_vmem h_S1x32x1024))
  let _v ← Prog.lift (.load s2M (rS21 k b).toLoadRect (View.loadsAt_vmem h_S1x32x1024))
  Prog.lift (.store s2M (rS21 k b) (k0_pay95 va vl vg vh) Finset.univ (View.stores_vmem h_S1x32x1024 ((Memref.isWhole_whole cc0_scratch6).storeExact_slice rfl _ (pS21 k b)) (fun _ => rfl)) (.inl rfl))

def send2 (n : Dev nD) (k : Fin 3) : PR F PUnit :=
  Prog.lift (.enqueueDma (s2Src k) (.remote (Dev.tc n) (r2Dst k) (.dma s2S)) (.dma r2S) (xS2 k) (xR2 k) ⟨⟨rfl, Or.inl rfl⟩, trivial⟩)

def opsA (d0 : Dev nD) (b : Fin 2) : PR F PUnit := do
  let va ← Prog.lift (.load aM (rC d0 b).toLoadRect (View.loadsAt_vmem h_S1x32x1024))
  let vl ← Prog.lift (.load r1M (rLo1 3 b).toLoadRect (View.loadsAt_vmem h_S1x32x1024))
  let vg ← Prog.lift (.load g1M (rG1 3 b).toLoadRect (View.loadsAt_vmem h_S1x32x1024))
  let vh ← Prog.lift (.load r1M (rHi1 3 b).toLoadRect (View.loadsAt_vmem h_S1x32x1024))
  let _v ← Prog.lift (.load aM (rC d0 b).toLoadRect (View.loadsAt_vmem h_S1x32x1024))
  Prog.lift (.store aM (rC d0 b) (k0_pay106 va vl vg vh) Finset.univ (View.stores_vmem_bits_univ h_S1x32x1024 rfl) (.inl rfl))

def wait2 : PR F PUnit := do
  Prog.lift (.waitDma2 r2S (s2Src 0) (r2Dst 0) (xS2 0) (xR2 0))
  Prog.lift (.waitDma2 r2S (s2Src 1) (r2Dst 1) (xS2 1) (xR2 1))
  Prog.lift (.waitDma2 r2S (s2Src 2) (r2Dst 2) (xS2 2) (xR2 2))

def part3 (d0 n : Dev nD) : PR F PUnit := do
  let va ← Prog.lift (.load aM (Rect.unit (s := S8x32x1024) (k0_off7 d0) S1x32x1024.size (k0_off7_inb d0)).toLoadRect (View.loadsAt_vmem h_S1x32x1024))
  let v0 ← Prog.lift (.load r2M (Rect.unit (s := S6x32x1024) (k0_off8 d0) S1x32x1024.size (k0_off8_inb d0)).toLoadRect (View.loadsAt_vmem h_S1x32x1024))
  let v1 ← Prog.lift (.load r2M (Rect.unit (s := S6x32x1024) (k0_off9 d0 2#32) S1x32x1024.size (k0_off9_inb d0 0)).toLoadRect (View.loadsAt_vmem h_S1x32x1024))
  let v2 ← Prog.lift (.load r2M (Rect.unit (s := S6x32x1024) (k0_off9 d0 4#32) S1x32x1024.size (k0_off9_inb d0 1)).toLoadRect (View.loadsAt_vmem h_S1x32x1024))
  let _v ← Prog.lift (.load s3M (Rect.unit (s := S32x1024) ![0, 0] S32x1024.size inb_S32x1024_S32x1024_0_0).toLoadRect (View.loadsAt_vmem h_S32x1024))
  Prog.lift (.store s3M (Rect.unit (s := S32x1024) ![0, 0] S32x1024.size inb_S32x1024_S32x1024_0_0) (k0_pay108 (k0_pay107 va v0 v1 v2)) Finset.univ (View.stores_vmem h_S32x1024 ((Memref.isWhole_whole cc0_scratch8).storeExact_slice rfl _ packedbf16_S32x1024_S32x1024_0_0) (fun _ => rfl)) (.inl rfl))
  Prog.lift (.enqueueDma s3M (.remote (Dev.tc n) r3M (.dma s3S)) (.dma r3S) xS3 xR3 ⟨⟨rfl, Or.inl rfl⟩, trivial⟩)

def part4 (d0 : Dev nD) : PR F PUnit := do
  let va ← Prog.lift (.load aM (Rect.unit (s := S8x32x1024) (k0_off10 d0) S1x32x1024.size (k0_off10_inb d0)).toLoadRect (View.loadsAt_vmem h_S1x32x1024))
  let v0 ← Prog.lift (.load r2M (Rect.unit (s := S6x32x1024) (k0_off11 d0) S1x32x1024.size (k0_off11_inb d0)).toLoadRect (View.loadsAt_vmem h_S1x32x1024))
  let v1 ← Prog.lift (.load r2M (Rect.unit (s := S6x32x1024) (k0_off12 d0 2#32) S1x32x1024.size (k0_off12_inb d0 0)).toLoadRect (View.loadsAt_vmem h_S1x32x1024))
  let v2 ← Prog.lift (.load r2M (Rect.unit (s := S6x32x1024) (k0_off12 d0 4#32) S1x32x1024.size (k0_off12_inb d0 1)).toLoadRect (View.loadsAt_vmem h_S1x32x1024))
  Prog.lift (.waitDma2 r3S s3M r3M xS3 xR3)
  let v3 ← Prog.lift (.load r3M (Rect.unit (s := S32x1024) ![0, 0] S32x1024.size inb_S32x1024_S32x1024_0_0).toLoadRect (View.loadsAt_vmem h_S32x1024))
  let _v ← Prog.lift (.load oM (Rect.unit (s := S32x1024) ![0, 0] S32x1024.size inb_S32x1024_S32x1024_0_0).toLoadRect (View.loadsAt_vmem h_S32x1024))
  Prog.lift (.store oM (Rect.unit (s := S32x1024) ![0, 0] S32x1024.size inb_S32x1024_S32x1024_0_0) (k0_pay109 va v0 v1 v2 v3) Finset.univ (View.stores_vmem_bits_univ h_S32x1024 rfl) (.inl rfl))

def waitS1 (d0 : Dev nD) (k : Fin 4) : PR F PUnit := do
  Prog.lift (.waitDma2 s1S (hiDst k) (sSrc d0 0 k) (xHi k) (xSrc d0 0 k))
  Prog.lift (.waitDma2 s1S (gDst k) (fSrc d0 k) (xG k) (xfSrc d0 k))
  Prog.lift (.waitDma2 s1S (loDst k) (sSrc d0 2 k) (xLo k) (xSrc d0 2 k))

def waitS2 : PR F PUnit := do
  Prog.lift (.waitDma2 s2S (r2Dst 0) (s2Src 0) (xR2 0) (xS2 0))
  Prog.lift (.waitDma2 s2S (r2Dst 1) (s2Src 1) (xR2 1) (xS2 1))
  Prog.lift (.waitDma2 s2S (r2Dst 2) (s2Src 2) (xR2 2) (xS2 2))

def waitS3 : PR F PUnit := Prog.lift (.waitDma2 s3S r3M s3M xR3 xS3)

def signals (n1 n2 n3 n4 n5 n6 n7 : Dev nD) : PR F PUnit := do
  semSignalWord n1 barS 1#32
  semSignalWord n2 barS 1#32
  semSignalWord n3 barS 1#32
  semSignalWord n4 barS 1#32
  semSignalWord n5 barS 1#32
  semSignalWord n6 barS 1#32
  semSignalWord n7 barS 1#32

/-- The input blocks read, the first kept in scratch with its rows grouped by device. -/
def readIn : PR F (FVec F S32x1024 .bf16) := do
  let vx ← Prog.lift (.load xM (Rect.unit (s := S1024x32) ![0, 0] S1024x32.size inb_S1024x32_S1024x32_0_0).toLoadRect (View.loadsAt_vmem h_S1024x32))
  let _v ← Prog.lift (.load x3M (Rect.unit (s := S32x32x32) ![0, 0, 0] S32x32x32.size inb_S32x32x32_S32x32x32_0_0_0).toLoadRect (View.loadsAt_vmem h_S32x32x32))
  Prog.lift (.store x3M (Rect.unit (s := S32x32x32) ![0, 0, 0] S32x32x32.size inb_S32x32x32_S32x32x32_0_0_0) (k0_pay1 vx) Finset.univ (View.stores_vmem h_S32x32x32 ((Memref.isWhole_whole cc0_scratch1).storeExact_slice rfl _ packedbf16_S32x32x32_S32x32x32_0_0_0) (fun _ => rfl)) (.inl rfl))
  let vw ← Prog.lift (.load wM (Rect.unit (s := S32x1024) ![0, 0] S32x1024.size inb_S32x1024_S32x1024_0_0).toLoadRect (View.loadsAt_vmem h_S32x1024))
  pure (k0_pay2 vw)

/-- One round of the first exchange after the products are stored. -/
def round1 (d0 n1 n2 n3 : Dev nD) (wb : FVec F S32x1024 .bf16) (k : Fin 4) : PR F PUnit := do
  let v ← loadX d0 k
  stores1 d0 (k0_pay3 wb v) k
  send1 d0 n1 n2 n3 k
  storeA d0 (k0_pay3 wb v) k

/-- Round 0, which waits on the barrier between its stores and its copies. -/
def round0 (d0 n1 n2 n3 : Dev nD) (wb : FVec F S32x1024 .bf16) : PR F PUnit := do
  let v ← loadX d0 0
  stores1 d0 (k0_pay3 wb v) 0
  semWaitWord barS 7#32
  send1 d0 n1 n2 n3 0
  storeA d0 (k0_pay3 wb v) 0

def round2 (d0 n : Dev nD) (k : Fin 3) : PR F PUnit := do
  wait1 d0 (k3 k)
  ops2 d0 k 0
  ops2 d0 k 1
  send2 n k

def finish (d0 : Dev nD) : PR F PUnit := do
  waitS1 d0 0
  waitS1 d0 1
  waitS1 d0 2
  waitS1 d0 3
  waitS2
  waitS3

/-- The whole kernel on device `d0`. -/
def phases (d0 : Dev nD) : PR F PUnit := do
  signals ⟨k0_dev1 d0, k0_dev1_lt d0⟩ ⟨k0_dev2 d0, k0_dev2_lt d0⟩ ⟨k0_dev3 d0, k0_dev3_lt d0⟩ ⟨k0_dev4 d0, k0_dev4_lt d0⟩ ⟨k0_dev5 d0, k0_dev5_lt d0⟩ ⟨k0_dev6 d0, k0_dev6_lt d0⟩ ⟨k0_dev7 d0, k0_dev7_lt d0⟩
  let wb ← readIn
  round0 d0 ⟨k0_dev8 d0, k0_dev8_lt d0⟩ ⟨k0_dev9 d0, k0_dev9_lt d0⟩ ⟨k0_dev10 d0, k0_dev10_lt d0⟩ wb
  round1 d0 ⟨k0_dev11 d0, k0_dev11_lt d0⟩ ⟨k0_dev12 d0, k0_dev12_lt d0⟩ ⟨k0_dev13 d0, k0_dev13_lt d0⟩ wb 1
  round1 d0 ⟨k0_dev14 d0, k0_dev14_lt d0⟩ ⟨k0_dev15 d0, k0_dev15_lt d0⟩ ⟨k0_dev16 d0, k0_dev16_lt d0⟩ wb 2
  round1 d0 ⟨k0_dev17 d0, k0_dev17_lt d0⟩ ⟨k0_dev18 d0, k0_dev18_lt d0⟩ ⟨k0_dev19 d0, k0_dev19_lt d0⟩ wb 3
  round2 d0 ⟨k0_dev20 d0, k0_dev20_lt d0⟩ 0
  round2 d0 ⟨k0_dev21 d0, k0_dev21_lt d0⟩ 1
  round2 d0 ⟨k0_dev22 d0, k0_dev22_lt d0⟩ 2
  wait1 d0 3
  opsA d0 0
  opsA d0 1
  wait2
  part3 d0 ⟨k0_dev23 d0, k0_dev23_lt d0⟩
  part4 d0
  finish d0

end Cert.KernelIdeal.Hand

end
-- ==== Proof.IGeo.lean ====
/-
# Devices, rows, and ownership by rows

The mesh is thirty-two devices: four planes of two squares of four. The kernel exchanges inside a
square, then between the planes, then between the two squares of a plane. Every buffer the copies
touch is a stack of 32×1024 rows; the proof owns a buffer by sets of rows.
-/
module

public import proofs.«01_k».proof.Proof.IProg
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 12)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices -/

/-- The plane, the place in the square, and which square of the plane. -/
def zi (c : Dev nD) : ℕ := c.val / 8
def ql (c : Dev nD) : ℕ := c.val % 4
def qh (c : Dev nD) : ℕ := c.val / 4 % 2

set_option backward.proofsInPublic true in
/-- `d` places on in `c`'s square. -/
def sq (c : Dev nD) (d : ℕ) : Dev nD := ⟨c.val / 4 * 4 + (c.val % 4 + d) % 4, by have : c.val < 32 := c.isLt; show _ < 32; omega⟩
set_option backward.proofsInPublic true in
/-- `k` planes on, at `c`'s place in the plane. -/
def zp (c : Dev nD) (k : ℕ) : Dev nD := ⟨(c.val / 8 + k) % 4 * 8 + c.val % 8, by have : c.val < 32 := c.isLt; show _ < 32; omega⟩
set_option backward.proofsInPublic true in
/-- `c`'s place in the other square of its plane. -/
def fl (c : Dev nD) : Dev nD := ⟨c.val / 8 * 8 + (c.val + 4) % 8, by have : c.val < 32 := c.isLt; show _ < 32; omega⟩

/-- The zone (pair of rows in each column) that round `k` of device `c` fills. -/
def zn (c : Dev nD) (k : ℕ) : ℕ := (zi c + 1 + k) % 4

/-- Whom device `c`'s payment number `i` goes to: seven barrier units, twelve copies inside the
    square, three between planes, one to the other square. -/
def tgt (c : Dev nD) (i : Fin 23) : Dev nD :=
  if i.val < 3 then sq c (i.val + 1) else if i.val < 6 then zp c (i.val - 2) else if i.val < 7 then fl c
  else if i.val < 19 then sq c ((i.val - 7) % 3 + 1) else if i.val < 22 then zp c (i.val - 18) else fl c
/-- Who makes payment `i` to device `t`. -/
def src (t : Dev nD) (i : Fin 23) : Dev nD :=
  if i.val < 3 then sq t (3 - i.val) else if i.val < 6 then zp t (6 - i.val) else if i.val < 7 then fl t
  else if i.val < 19 then sq t (3 - (i.val - 7) % 3) else if i.val < 22 then zp t (22 - i.val) else fl t

theorem tgt_src : ∀ (t : Dev nD) (i : Fin 23), tgt (src t i) i = t := by decide +kernel
theorem src_tgt : ∀ (c : Dev nD) (i : Fin 23), src (tgt c i) i = c := by decide +kernel

/-- Payment `i` as a rearrangement of the devices. -/
def hop (i : Fin 23) : Dev nD ≃ Dev nD := ⟨fun c => tgt c i, fun t => src t i, fun c => src_tgt c i, fun t => tgt_src t i⟩

theorem dev1_eq : ∀ c : Dev nD, (⟨k0_dev1 c, k0_dev1_lt c⟩ : Dev nD) = tgt c 0 := by decide +kernel
theorem dev2_eq : ∀ c : Dev nD, (⟨k0_dev2 c, k0_dev2_lt c⟩ : Dev nD) = tgt c 1 := by decide +kernel
theorem dev3_eq : ∀ c : Dev nD, (⟨k0_dev3 c, k0_dev3_lt c⟩ : Dev nD) = tgt c 2 := by decide +kernel
theorem dev4_eq : ∀ c : Dev nD, (⟨k0_dev4 c, k0_dev4_lt c⟩ : Dev nD) = tgt c 3 := by decide +kernel
theorem dev5_eq : ∀ c : Dev nD, (⟨k0_dev5 c, k0_dev5_lt c⟩ : Dev nD) = tgt c 4 := by decide +kernel
theorem dev6_eq : ∀ c : Dev nD, (⟨k0_dev6 c, k0_dev6_lt c⟩ : Dev nD) = tgt c 5 := by decide +kernel
theorem dev7_eq : ∀ c : Dev nD, (⟨k0_dev7 c, k0_dev7_lt c⟩ : Dev nD) = tgt c 6 := by decide +kernel
theorem dev8_eq : ∀ c : Dev nD, (⟨k0_dev8 c, k0_dev8_lt c⟩ : Dev nD) = sq c 1 := by decide +kernel
theorem dev9_eq : ∀ c : Dev nD, (⟨k0_dev9 c, k0_dev9_lt c⟩ : Dev nD) = sq c 2 := by decide +kernel
theorem dev10_eq : ∀ c : Dev nD, (⟨k0_dev10 c, k0_dev10_lt c⟩ : Dev nD) = sq c 3 := by decide +kernel
theorem dev11_eq : ∀ c : Dev nD, (⟨k0_dev11 c, k0_dev11_lt c⟩ : Dev nD) = sq c 1 := by decide +kernel
theorem dev12_eq : ∀ c : Dev nD, (⟨k0_dev12 c, k0_dev12_lt c⟩ : Dev nD) = sq c 2 := by decide +kernel
theorem dev13_eq : ∀ c : Dev nD, (⟨k0_dev13 c, k0_dev13_lt c⟩ : Dev nD) = sq c 3 := by decide +kernel
theorem dev14_eq : ∀ c : Dev nD, (⟨k0_dev14 c, k0_dev14_lt c⟩ : Dev nD) = sq c 1 := by decide +kernel
theorem dev15_eq : ∀ c : Dev nD, (⟨k0_dev15 c, k0_dev15_lt c⟩ : Dev nD) = sq c 2 := by decide +kernel
theorem dev16_eq : ∀ c : Dev nD, (⟨k0_dev16 c, k0_dev16_lt c⟩ : Dev nD) = sq c 3 := by decide +kernel
theorem dev17_eq : ∀ c : Dev nD, (⟨k0_dev17 c, k0_dev17_lt c⟩ : Dev nD) = sq c 1 := by decide +kernel
theorem dev18_eq : ∀ c : Dev nD, (⟨k0_dev18 c, k0_dev18_lt c⟩ : Dev nD) = sq c 2 := by decide +kernel
theorem dev19_eq : ∀ c : Dev nD, (⟨k0_dev19 c, k0_dev19_lt c⟩ : Dev nD) = sq c 3 := by decide +kernel
theorem dev20_eq : ∀ c : Dev nD, (⟨k0_dev20 c, k0_dev20_lt c⟩ : Dev nD) = zp c 1 := by decide +kernel
theorem dev21_eq : ∀ c : Dev nD, (⟨k0_dev21 c, k0_dev21_lt c⟩ : Dev nD) = zp c 2 := by decide +kernel
theorem dev22_eq : ∀ c : Dev nD, (⟨k0_dev22 c, k0_dev22_lt c⟩ : Dev nD) = zp c 3 := by decide +kernel
theorem dev23_eq : ∀ c : Dev nD, (⟨k0_dev23 c, k0_dev23_lt c⟩ : Dev nD) = fl c := by decide +kernel

/-! ## The printed offsets -/

/-- The first row of round `k`'s pair in column `lc`. -/
def pr (c : Dev nD) (lc k : ℕ) : ℕ := lc * 8 + 2 * zn c k

theorem off1_eq : ∀ (c : Dev nD) (k : Fin 4), ∀ a, k0_off1 c (BitVec.ofNat 32 (1 + k.val)) a = (![8 * zn c k.val, 0, 0] : Fin 3 → ℕ) a := by decide +kernel
theorem off2_eq : ∀ (c : Dev nD) (lc k : Fin 4) (b : Fin 2), ∀ a, o2 c lc k b a = (![pr c lc.val k.val + b.val, 0, 0] : Fin 3 → ℕ) a := by decide +kernel
theorem off3_eq : ∀ (c : Dev nD) (dd : Fin 3) (k : Fin 4), ∀ a, o3 c dd k a = (![pr c ((ql c + 1 + dd.val) % 4) k.val, 0, 0] : Fin 3 → ℕ) a := by decide +kernel
theorem off4_eq : ∀ (c : Dev nD) (k : Fin 4), ∀ a, k0_off4 c (BitVec.ofNat 32 (1 + k.val)) a = (![2 * zn c k.val, 0, 0] : Fin 3 → ℕ) a := by decide +kernel
theorem off5_eq : ∀ (c : Dev nD) (k : Fin 3) (b : Fin 2), ∀ a, k0_off5 c (BitVec.ofNat 32 (1 + k.val)) (BitVec.ofNat 32 b.val) a = (![2 * zn c k.val + b.val, 0, 0] : Fin 3 → ℕ) a := by decide +kernel
theorem off6_eq : ∀ (c : Dev nD) (b : Fin 2), ∀ a, k0_off6 c (BitVec.ofNat 32 b.val) a = (![2 * zn c 3 + b.val, 0, 0] : Fin 3 → ℕ) a := by decide +kernel
theorem off7_eq : ∀ (c : Dev nD), ∀ a, k0_off7 c a = (![2 * zn c 3 + (1 - qh c), 0, 0] : Fin 3 → ℕ) a := by decide +kernel
theorem off8_eq : ∀ (c : Dev nD), ∀ a, k0_off8 c a = (![1 - qh c, 0, 0] : Fin 3 → ℕ) a := by decide +kernel
theorem off9_eq : ∀ (c : Dev nD) (r : Fin 2), ∀ a, k0_off9 c (BitVec.ofNat 32 (2 * (1 + r.val))) a = (![2 * (1 + r.val) + (1 - qh c), 0, 0] : Fin 3 → ℕ) a := by decide +kernel
theorem off10_eq : ∀ (c : Dev nD), ∀ a, k0_off10 c a = (![2 * zn c 3 + qh c, 0, 0] : Fin 3 → ℕ) a := by decide +kernel
theorem off11_eq : ∀ (c : Dev nD), ∀ a, k0_off11 c a = (![qh c, 0, 0] : Fin 3 → ℕ) a := by decide +kernel
theorem off12_eq : ∀ (c : Dev nD) (r : Fin 2), ∀ a, k0_off12 c (BitVec.ofNat 32 (2 * (1 + r.val))) a = (![2 * (1 + r.val) + qh c, 0, 0] : Fin 3 → ℕ) a := by decide +kernel

/-! ## Rows -/

/-- The indices whose row number lies in `T`. -/
def rows {I : Type} [Fintype I] (ρ : I → ℕ) (T : Finset ℕ) : Finset I := Finset.univ.filter fun i => ρ i ∈ T

theorem mem_rows {I : Type} [Fintype I] {ρ : I → ℕ} {T : Finset ℕ} {i : I} : i ∈ rows ρ T ↔ ρ i ∈ T := by simp [rows]
theorem rows_union {I : Type} [Fintype I] [DecidableEq I] (ρ : I → ℕ) (T T' : Finset ℕ) : rows ρ (T ∪ T') = rows ρ T ∪ rows ρ T' := by
  ext i; simp [mem_rows]
theorem rows_disjoint {I : Type} [Fintype I] (ρ : I → ℕ) {T T' : Finset ℕ} (h : Disjoint T T') : Disjoint (rows ρ T) (rows ρ T') := by
  rw [Finset.disjoint_left]; intro i h1 h2; exact Finset.disjoint_left.mp h (mem_rows.mp h1) (mem_rows.mp h2)
theorem rows_mono {I : Type} [Fintype I] (ρ : I → ℕ) {T T' : Finset ℕ} (h : T ⊆ T') : rows ρ T ⊆ rows ρ T' :=
  fun i hi => mem_rows.mpr (h (mem_rows.mp hi))

/-- A stack of `n` rows of 32×1024. -/
abbrev B3 (n : ℕ) : Shape := ⟨3, ![n, 32, 1024]⟩
/-- The row an index of a stack lies in. -/
def ro {n : ℕ} (i : (B3 n).Idx) : ℕ := (i 0).val
/-- `l` rows from row `a` on. -/
abbrev seg (a l : ℕ) : Finset ℕ := Finset.Ico a (a + l)

theorem rows_range {n : ℕ} : rows (ro (n := n)) (Finset.range n) = Finset.univ := by
  ext i; simp only [mem_rows, Finset.mem_range, Finset.mem_univ, iff_true]; exact (i 0).isLt

/-- A rectangle of whole rows covers the rows it names. -/
theorem rect_rows {n l a : ℕ} {off : Fin 3 → ℕ} (h : ∀ x, off x = (![a, 0, 0] : Fin 3 → ℕ) x) (inb : ∀ x, off x + (![l, 32, 1024] : Fin 3 → ℕ) x ≤ (B3 n).size x) :
    (Rect.unit (s := B3 n) off ![l, 32, 1024] inb).set = rows ro (seg a l) := by
  ext i
  rw [Rect.mem_set_unit, mem_rows, Finset.mem_Ico]
  have h0 : off 0 = a := h 0
  have h1 : off 1 = 0 := h 1
  have h2 : off 2 = 0 := h 2
  have i1 : (i 1).val < 32 := (i 1).isLt
  have i2 : (i 2).val < 1024 := (i 2).isLt
  constructor
  · intro H; have := H 0; rw [h0] at this; exact this
  · intro H x
    fin_cases x
    · show off 0 ≤ (i 0).val ∧ (i 0).val < off 0 + l; rw [h0]; exact H
    · show off 1 ≤ (i 1).val ∧ (i 1).val < off 1 + 32; omega
    · show off 2 ≤ (i 2).val ∧ (i 2).val < off 2 + 1024; omega

/-! ## Values by row -/

/-- An index of a single row. -/
def ix1 (y : Fin 32) (x : Fin 1024) : S1x32x1024.Idx := fun a => match a with | 0 => (0 : Fin 1) | 1 => y | 2 => x
/-- An index of a pair of rows. -/
def ix2 (b : Fin 2) (y : Fin 32) (x : Fin 1024) : S2x32x1024.Idx := fun a => match a with | 0 => b | 1 => y | 2 => x

/-- Contents given by row, column and lane. -/
def st {α : Type} {n : ℕ} (V : ℕ → Fin 32 → Fin 1024 → α) : (B3 n).Idx → α := fun i => V (i 0).val (i 1) (i 2)
/-- One row of such contents, as the vector a load of it returns. -/
def row {α : Type} (V : ℕ → Fin 32 → Fin 1024 → α) (r : ℕ) : S1x32x1024.Idx → α := fun j => V r (j 1) (j 2)

theorem read_row {α : Type} {n a : ℕ} {off : Fin 3 → ℕ} (h : ∀ x, off x = (![a, 0, 0] : Fin 3 → ℕ) x) (inb : ∀ x, off x + (![1, 32, 1024] : Fin 3 → ℕ) x ≤ (B3 n).size x)
    (V : ℕ → Fin 32 → Fin 1024 → α) :
    (fun j => st V ((Rect.unit (s := B3 n) off ![1, 32, 1024] inb).idx j)) = row V a := by
  funext j
  have h0 : off 0 = a := h 0
  have h1 : off 1 = 0 := h 1
  have h2 : off 2 = 0 := h 2
  have j0 : (j 0).val < 1 := (j 0).isLt
  show V _ _ _ = V _ _ _
  congr 1
  · show off 0 + 1 * (j 0).val = a; omega
  · apply Fin.ext; show off 1 + 1 * (j 1).val = (j 1).val; omega
  · apply Fin.ext; show off 2 + 1 * (j 2).val = (j 2).val; omega

theorem read_pair {α : Type} {n l a : ℕ} {off : Fin 3 → ℕ} (h : ∀ x, off x = (![a, 0, 0] : Fin 3 → ℕ) x) (inb : ∀ x, off x + (![l, 32, 1024] : Fin 3 → ℕ) x ≤ (B3 n).size x)
    (V : ℕ → Fin 32 → Fin 1024 → α) (j : (Rect.unit (s := B3 n) off ![l, 32, 1024] inb).shape.Idx) :
    st V ((Rect.unit (s := B3 n) off ![l, 32, 1024] inb).idx j) = V (a + (j 0).val) (j 1) (j 2) := by
  have h0 : off 0 = a := h 0
  have h1 : off 1 = 0 := h 1
  have h2 : off 2 = 0 := h 2
  show V _ _ _ = V _ _ _
  congr 1
  · show off 0 + 1 * (j 0).val = a + (j 0).val; omega
  · apply Fin.ext; show off 1 + 1 * (j 1).val = (j 1).val; omega
  · apply Fin.ext; show off 2 + 1 * (j 2).val = (j 2).val; omega

/-! ## Ownership by rows -/

/-- Device `c` owns the elements of buffer `b` whose row lies in `T`, at contents `V`. -/
def RB (c : Dev nD) (b : Ref sig .tc) (ρ : b.ty.Idx → ℕ) (T : Finset ℕ) (V : b.ty.Contents (Elt F)) : sProp 𝕄 :=
  ((c : Thread nD τ).loc b) ↦[rows ρ T]{fullShare} V
/-- The same at some contents. -/
def RE (c : Dev nD) (b : Ref sig .tc) (ρ : b.ty.Idx → ℕ) (T : Finset ℕ) : sProp 𝕄 :=
  iprop(∃ V : b.ty.Contents (Elt F), RB c b ρ T V)

omit [FloatOps F] in
instance RB_storable (c : Dev nD) (b : Ref sig .tc) (ρ) (T) (V) : BI.Storable (upEmb : UEmb _ 𝕄) (RB (F := F) c b ρ T V) := by unfold RB; infer_instance
omit [FloatOps F] in
instance RE_storable (c : Dev nD) (b : Ref sig .tc) (ρ) (T) : BI.Storable (upEmb : UEmb _ 𝕄) (RE (F := F) c b ρ T) := by unfold RE; infer_instance

section Own
variable {c : Dev nD} {b : Ref sig .tc} {ρ : b.ty.Idx → ℕ} {T T' : Finset ℕ} {V V' : b.ty.Contents (Elt F)}

omit [FloatOps F] in
theorem RB_RE : RB c b ρ T V ⊢ RE c b ρ T := by unfold RE; iintro H; iexists V; iexact H
omit [FloatOps F] in
theorem RB_congr (h : ∀ i, ρ i ∈ T → V i = V' i) : RB c b ρ T V = RB c b ρ T V' := by
  unfold RB; exact pointsTo_congr (fun i hi => h i (mem_rows.mp hi))
omit [FloatOps F] in
theorem RB_to (h : ∀ i, ρ i ∈ T → V i = V' i) : RB c b ρ T V ⊢ RB c b ρ T V' := by rw [RB_congr h]
omit [FloatOps F] in
theorem RB_split (h : Disjoint T T') : RB c b ρ (T ∪ T') V ⊢ iprop(RB c b ρ T V ∗ RB c b ρ T' V) := by
  unfold RB; rw [rows_union]; exact (pointsTo_union (rows_disjoint ρ h)).1
omit [FloatOps F] in
theorem RB_join (h : Disjoint T T') : iprop(RB c b ρ T V ∗ RB c b ρ T' V) ⊢ RB c b ρ (T ∪ T') V := by
  unfold RB; rw [rows_union]; exact (pointsTo_union (rows_disjoint ρ h)).2
omit [FloatOps F] in
theorem RE_split (h : Disjoint T T') : RE (F := F) c b ρ (T ∪ T') ⊢ iprop(RE c b ρ T ∗ RE c b ρ T') := by
  unfold RE
  iintro ⟨%V, H⟩
  ihave H := (RB_split h) $$ H
  icases H with ⟨H1, H2⟩
  isplitl [H1]
  · iexists V; iexact H1
  · iexists V; iexact H2
omit [FloatOps F] in
theorem RE_join (h : Disjoint T T') : iprop(RE (F := F) c b ρ T ∗ RE c b ρ T') ⊢ RE c b ρ (T ∪ T') := by
  conv => lhs; unfold RE
  iintro ⟨⟨%V, H1⟩, ⟨%V', H2⟩⟩
  ihave H1 := (RB_to (V' := fun i => if ρ i ∈ T then V i else V' i) fun i hi => by simp [hi]) $$ H1
  ihave H2 := (RB_to (V' := fun i => if ρ i ∈ T then V i else V' i) fun i hi => by simp [Finset.disjoint_right.mp h hi]) $$ H2
  iapply RB_RE
  iapply (RB_join h)
  isplitl [H1]
  · iexact H1
  · iexact H2
end Own

/-! ## Loads and stores of rows -/

section Rules
variable {c : Dev nD} {α : Type} {cs : CoreSpace} {i : Fin (sig.nNear .tc cs)} {hκ : sig.names .tc cs i = true}

/-- A load of rows owned at known contents. -/
theorem wp_ld {Q : α → sProp 𝕄} {ρ : (sig.tyNear .tc cs i).Idx → ℕ} {T : Finset ℕ} {V : (sig.tyNear .tc cs i).Contents (Elt F)}
    {r : Rect (sig.tyNear .tc cs i).shape} {hl : (Memref.whole ⟨cs, i, hκ⟩ : Memref sig .tc _ _ _).view.LoadsAt r.toLoadRect}
    {k : (r.shape.Idx → Elt F (sig.tyNear .tc cs i).elt) → PR F α}
    (hS : r.set ⊆ rows ρ T) {w : r.shape.Idx → Elt F (sig.tyNear .tc cs i).elt} (hw : (fun j => V (r.idx j)) = w) :
    RB c ⟨cs, i, hκ⟩ ρ T V ⊢ iprop((RB c ⟨cs, i, hκ⟩ ρ T V -∗ wp frame (wpE (defs₀ (F := F)) 𝒱₀ (c : Thread nD τ) none) Set.univ (k w) Q)
        -∗ wp frame (wpE (defs₀ (F := F)) 𝒱₀ (c : Thread nD τ) none) Set.univ (.op (.load (Memref.whole ⟨cs, i, hκ⟩) r.toLoadRect hl) k) Q) := by
  subst hw
  exact wp_load_rect (defs := defs₀ (F := F)) 𝒱₀ (c : Thread nD τ) none Set.univ (Q := Q) (m := Memref.whole ⟨cs, i, hκ⟩) (r := r) (hl := hl)
    (k := k) (q := fullShare) (f := V) (S := rows ρ T) ((View.set_slice_whole _ _).trans_subset hS)

/-- A load whose result does not matter. -/
theorem wp_ld_any {Q : α → sProp 𝕄} {ρ : (sig.tyNear .tc cs i).Idx → ℕ} {T : Finset ℕ}
    {r : Rect (sig.tyNear .tc cs i).shape} {hl : (Memref.whole ⟨cs, i, hκ⟩ : Memref sig .tc _ _ _).view.LoadsAt r.toLoadRect}
    {k : PR F α} (hS : r.set ⊆ rows ρ T) :
    RE c ⟨cs, i, hκ⟩ ρ T ⊢ iprop((RE c ⟨cs, i, hκ⟩ ρ T -∗ wp frame (wpE (defs₀ (F := F)) 𝒱₀ (c : Thread nD τ) none) Set.univ k Q)
        -∗ wp frame (wpE (defs₀ (F := F)) 𝒱₀ (c : Thread nD τ) none) Set.univ (.op (.load (Memref.whole ⟨cs, i, hκ⟩) r.toLoadRect hl) (fun _ => k)) Q) := by
  unfold RE
  iintro ⟨%V, H⟩ Hk
  iapply (wp_ld hS rfl) $$ H
  iintro H
  iapply Hk
  iexists V
  iexact H

/-- A store over exactly the rows owned. -/
theorem wp_st {Q : α → sProp 𝕄} {ρ : (sig.tyNear .tc cs i).Idx → ℕ} {T : Finset ℕ} (V : (sig.tyNear .tc cs i).Contents (Elt F))
    {r : Rect (sig.tyNear .tc cs i).shape} {w : r.shape.Idx → Elt F (sig.tyNear .tc cs i).elt}
    {hx : ((Memref.whole ⟨cs, i, hκ⟩ : Memref sig .tc _ _ _).access r).Stores Finset.univ} {hm : (Finset.univ : Finset r.shape.Idx) = Finset.univ ∨ ∀ a, r.stride a = 1}
    {k : PUnit → PR F α}
    (hS : r.set = rows ρ T) (hw : ∀ j, w j = V (r.idx j)) :
    RE c ⟨cs, i, hκ⟩ ρ T ⊢ iprop((RB c ⟨cs, i, hκ⟩ ρ T V -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole ⟨cs, i, hκ⟩) r w Finset.univ hx hm) k) Q) := by
  unfold RE
  iintro ⟨%f, H⟩ Hk
  have e : RB (F := F) c ⟨cs, i, hκ⟩ ρ T (((Memref.whole ⟨cs, i, hκ⟩ : Memref sig .tc _ _ _).access r).write (Elt F) f w Finset.univ) ⊢ RB c ⟨cs, i, hκ⟩ ρ T V := by
    refine RB_to fun x hx => ?_
    have hx' : x ∈ r.set := by rw [hS]; exact mem_rows.mpr hx
    obtain ⟨j, rfl⟩ := r.toLoadRect.exists_idx_of_mem hx'
    exact (View.write_emb_of_mem (Val := Elt F) (v := (Memref.whole ⟨cs, i, hκ⟩ : Memref sig .tc _ _ _).access r) f w (Finset.mem_univ j)).trans (hw j)
  unfold RB at e ⊢
  iapply (wp_store (defs := defs₀ (F := F)) 𝒱₀ (c : Thread nD τ) none Set.univ (Q := Q) (m := Memref.whole ⟨cs, i, hκ⟩) (r := r) (w := w) (Mk := Finset.univ) (hx := hx) (hm := hm)
    (k := k) (f := f) (S := rows ρ T) (by rw [← hS]; exact (View.set_slice_whole _ _).subset)) $$ H
  iintro H
  iapply Hk
  iapply e $$ H
end Rules

end Cert.KernelIdeal.Hand

end
-- ==== Proof.IVal.lean ====
/-
# The values in flight

What each buffer of a device holds, as a function of the two input blocks of every device: by row
number, so that a slice of rows reads as the same function at shifted rows.
-/
module

public import proofs.«01_k».proof.Proof.IGeo

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-- The first input of device `c` with its rows grouped in thirty-two blocks, by block number. -/
def x3 (c : Dev nD) : ℕ → Fin 32 → Fin 32 → Elt F .bf16 :=
  fun r y x => k0_pay1 (X c) (fun a => match a with | 0 => (⟨r % 32, Nat.mod_lt _ (by decide)⟩ : Fin 32) | 1 => y | 2 => x)
/-- Device `c`'s product for the eight blocks of plane `z`. -/
def pz (c : Dev nD) (z : ℕ) : FVec F S2x4x32x1024 .f32 :=
  k0_pay3 (k0_pay2 (W c)) (fun j : S8x32x32.Idx => x3 X c (8 * z + (j 0).val) (j 1) (j 2))

/-- A column number and a parity from a row number. -/
def colOf (r : ℕ) : Fin 4 := ⟨r / 8 % 4, Nat.mod_lt _ (by decide)⟩
def parOf (r : ℕ) : Fin 2 := ⟨r % 2, Nat.mod_lt _ (by decide)⟩

/-- The products kept for sending inside the square, in the two formats. -/
def S1V (c : Dev nD) : ℕ → Fin 32 → Fin 1024 → Elt F .bf16 :=
  fun r y x => payH (pz X W c (r % 8 / 2)) (colOf r) (parOf r) (ix1 y x)
def F1V (c : Dev nD) : ℕ → Fin 32 → Fin 1024 → Elt F .fp8e4m3 :=
  fun r y x => payQ (pz X W c (r % 8 / 2)) (colOf r) (parOf r) (ix1 y x)
/-- The device's own column of its products. -/
def A1V (c : Dev nD) : ℕ → Fin 32 → Fin 1024 → Elt F .f32 :=
  fun r y x => payA c (pz X W c (r / 2)) (ix2 (parOf r) y x)
/-- The row of a sender's buffer that lands in row `r` of `c`'s. -/
def fromRow (c : Dev nD) (r : ℕ) : ℕ := pr c (ql c) (r % 8 / 2) + r % 2
/-- What the square's devices send `c`: the nearest and the farthest in one buffer, the middle one in the other. -/
def R1V (c : Dev nD) : ℕ → Fin 32 → Fin 1024 → Elt F .bf16 :=
  fun r y x => S1V X W (sq c (if r < 8 then 1 else 3)) (fromRow c r) y x
def G1V (c : Dev nD) : ℕ → Fin 32 → Fin 1024 → Elt F .fp8e4m3 :=
  fun r y x => F1V X W (sq c 2) (fromRow c r) y x
/-- The square's sums for the other planes. -/
def S2V (c : Dev nD) : ℕ → Fin 32 → Fin 1024 → Elt F .bf16 :=
  fun r y x => k0_pay95 (row (A1V X W c) (2 * zn c (r / 2) + r % 2)) (row (R1V X W c) r) (row (G1V X W c) r) (row (R1V X W c) (16 + r)) (ix1 y x)
/-- What the other planes send `c`. -/
def R2V (c : Dev nD) : ℕ → Fin 32 → Fin 1024 → Elt F .bf16 :=
  fun r y x => S2V X W (zp c (1 + r / 2)) (2 * (2 - r / 2) + r % 2) y x
/-- The square's sums for `c`'s own plane, by parity of the row. -/
def A2V (c : Dev nD) : ℕ → Fin 32 → Fin 1024 → Elt F .f32 :=
  fun r y x => k0_pay106 (row (A1V X W c) r) (row (R1V X W c) (6 + r % 2)) (row (G1V X W c) (6 + r % 2)) (row (R1V X W c) (22 + r % 2)) (ix1 y x)
/-- What the four planes hold for the other square, and what the other square holds for `c`. -/
def S3V (c : Dev nD) : FVec F S32x1024 .bf16 :=
  k0_pay108 (k0_pay107 (row (A2V X W c) (2 * zn c 3 + (1 - qh c))) (row (R2V X W c) (1 - qh c)) (row (R2V X W c) (2 + (1 - qh c))) (row (R2V X W c) (4 + (1 - qh c))))
def R3V (c : Dev nD) : FVec F S32x1024 .bf16 := S3V X W (fl c)
/-- The kernel's result on device `c`. -/
def outV (c : Dev nD) : FVec F S32x1024 .f32 :=
  k0_pay109 (row (A2V X W c) (2 * zn c 3 + qh c)) (row (R2V X W c) (qh c)) (row (R2V X W c) (2 + qh c)) (row (R2V X W c) (4 + qh c)) (R3V X W c)

/-! ## The stored words are these values -/

theorem ix1_eta (j : S1x32x1024.Idx) : ix1 (j 1) (j 2) = j := by
  funext a
  fin_cases a
  · apply Fin.ext; show 0 = (j 0).val; have h : (j 0).val < 1 := (j 0).isLt; omega
  · rfl
  · rfl
theorem ix2_eta (j : S2x32x1024.Idx) {b : Fin 2} (h : b.val = (j 0).val) : ix2 b (j 1) (j 2) = j := by
  funext a
  fin_cases a
  · exact Fin.ext h
  · rfl
  · rfl

theorem loadX_val (c : Dev nD) (k : Fin 4) :
    (fun j => (k0_pay1 (X c)) ((rX c k).idx j)) = (fun j : S8x32x32.Idx => x3 X c (8 * zn c k.val + (j 0).val) (j 1) (j 2)) := by
  funext j
  have h0 : k0_off1 c (BitVec.ofNat 32 (1 + k.val)) 0 = 8 * zn c k.val := off1_eq c k 0
  have h1 : k0_off1 c (BitVec.ofNat 32 (1 + k.val)) 1 = 0 := off1_eq c k 1
  have h2 : k0_off1 c (BitVec.ofNat 32 (1 + k.val)) 2 = 0 := off1_eq c k 2
  have j0 : (j 0).val < 8 := (j 0).isLt
  have hz : zn c k.val < 4 := Nat.mod_lt _ (by decide)
  unfold x3
  congr 1
  funext a
  fin_cases a
  · apply Fin.ext; show k0_off1 c (BitVec.ofNat 32 (1 + k.val)) 0 + 1 * (j 0).val = (8 * zn c k.val + (j 0).val) % 32; omega
  · apply Fin.ext; show k0_off1 c (BitVec.ofNat 32 (1 + k.val)) 1 + 1 * (j 1).val = (j 1).val; omega
  · apply Fin.ext; show k0_off1 c (BitVec.ofNat 32 (1 + k.val)) 2 + 1 * (j 2).val = (j 2).val; omega

theorem zn_lt (c : Dev nD) (k : ℕ) : zn c k < 4 := Nat.mod_lt _ (by decide)

theorem pr_facts (c : Dev nD) (lc k : ℕ) (b : Fin 2) (hl : lc < 4) :
    (pr c lc k + b.val) % 8 / 2 = zn c k ∧ (pr c lc k + b.val) / 8 % 4 = lc ∧ (pr c lc k + b.val) % 2 = b.val := by
  have hz := zn_lt c k
  have hb := b.isLt
  unfold pr
  omega

theorem S1V_pr (c : Dev nD) (lc k : Fin 4) (b : Fin 2) (j : S1x32x1024.Idx) :
    payH (pz X W c (zn c k.val)) lc b j = S1V X W c (pr c lc.val k.val + b.val) (j 1) (j 2) := by
  obtain ⟨h1, h2, h3⟩ := pr_facts c lc.val k.val b lc.isLt
  unfold S1V
  rw [ix1_eta, h1, show colOf (pr c lc.val k.val + b.val) = lc from Fin.ext h2, show parOf (pr c lc.val k.val + b.val) = b from Fin.ext h3]
theorem F1V_pr (c : Dev nD) (lc k : Fin 4) (b : Fin 2) (j : S1x32x1024.Idx) :
    payQ (pz X W c (zn c k.val)) lc b j = F1V X W c (pr c lc.val k.val + b.val) (j 1) (j 2) := by
  obtain ⟨h1, h2, h3⟩ := pr_facts c lc.val k.val b lc.isLt
  unfold F1V
  rw [ix1_eta, h1, show colOf (pr c lc.val k.val + b.val) = lc from Fin.ext h2, show parOf (pr c lc.val k.val + b.val) = b from Fin.ext h3]
theorem A1V_zn (c : Dev nD) (k : ℕ) (j : S2x32x1024.Idx) :
    payA c (pz X W c (zn c k)) j = A1V X W c (2 * zn c k + (j 0).val) (j 1) (j 2) := by
  have j0 : (j 0).val < 2 := (j 0).isLt
  unfold A1V
  rw [show (2 * zn c k + (j 0).val) / 2 = zn c k by omega, ix2_eta]
  show (2 * zn c k + (j 0).val) % 2 = _
  omega
theorem S2V_k (c : Dev nD) (k : Fin 3) (b : Fin 2) (j : S1x32x1024.Idx) :
    k0_pay95 (row (A1V X W c) (2 * zn c k.val + b.val)) (row (R1V X W c) (2 * k.val + b.val)) (row (G1V X W c) (2 * k.val + b.val)) (row (R1V X W c) (16 + 2 * k.val + b.val)) j
      = S2V X W c (2 * k.val + b.val) (j 1) (j 2) := by
  have hb := b.isLt
  unfold S2V
  rw [ix1_eta, show (2 * k.val + b.val) / 2 = k.val by omega, show (2 * k.val + b.val) % 2 = b.val by omega, show 16 + (2 * k.val + b.val) = 16 + 2 * k.val + b.val by omega]
theorem A2V_b (c : Dev nD) (b : Fin 2) (j : S1x32x1024.Idx) :
    k0_pay106 (row (A1V X W c) (2 * zn c 3 + b.val)) (row (R1V X W c) (6 + b.val)) (row (G1V X W c) (6 + b.val)) (row (R1V X W c) (22 + b.val)) j
      = A2V X W c (2 * zn c 3 + b.val) (j 1) (j 2) := by
  have hb := b.isLt
  unfold A2V
  rw [ix1_eta, show (2 * zn c 3 + b.val) % 2 = b.val by omega]

/-! ## The copies deliver these values -/

theorem zn_sq (c : Dev nD) (d k : ℕ) : zn (sq c d) k = zn c k := by
  have hc : c.val < 32 := c.isLt
  unfold zn zi
  congr 2
  show (c.val / 4 * 4 + (c.val % 4 + d) % 4) / 8 + 1 = c.val / 8 + 1
  omega
theorem ql_sq : ∀ (c : Dev nD) (d : Fin 3), (ql (sq c (3 - d.val)) + 1 + d.val) % 4 = ql c := by decide +kernel

/-- Copy `dd` of round `k` from `c`'s square mate lands as `c`'s values. -/
theorem R1V_hi (c : Dev nD) (k : Fin 4) (r : ℕ) (hr : r < 2) (y : Fin 32) (x : Fin 1024) :
    S1V X W (sq c 3) (pr (sq c 3) (ql c) k.val + r) y x = R1V X W c (16 + 2 * k.val + r) y x := by
  have hk := k.isLt
  unfold R1V fromRow pr
  rw [if_neg (by omega), zn_sq, show (16 + 2 * k.val + r) % 8 / 2 = k.val by omega, show (16 + 2 * k.val + r) % 2 = r by omega]
theorem R1V_lo (c : Dev nD) (k : Fin 4) (r : ℕ) (hr : r < 2) (y : Fin 32) (x : Fin 1024) :
    S1V X W (sq c 1) (pr (sq c 1) (ql c) k.val + r) y x = R1V X W c (2 * k.val + r) y x := by
  have hk := k.isLt
  unfold R1V fromRow pr
  rw [if_pos (by omega), zn_sq, show (2 * k.val + r) % 8 / 2 = k.val by omega, show (2 * k.val + r) % 2 = r by omega]
theorem G1V_mid (c : Dev nD) (k : Fin 4) (r : ℕ) (hr : r < 2) (y : Fin 32) (x : Fin 1024) :
    F1V X W (sq c 2) (pr (sq c 2) (ql c) k.val + r) y x = G1V X W c (2 * k.val + r) y x := by
  have hk := k.isLt
  unfold G1V fromRow pr
  rw [zn_sq, show (2 * k.val + r) % 8 / 2 = k.val by omega, show (2 * k.val + r) % 2 = r by omega]
theorem R2V_k (c : Dev nD) (k : Fin 3) (r : ℕ) (hr : r < 2) (y : Fin 32) (x : Fin 1024) :
    S2V X W (zp c (3 - k.val)) (2 * k.val + r) y x = R2V X W c (4 - 2 * k.val + r) y x := by
  have hk := k.isLt
  unfold R2V
  rw [show 1 + (4 - 2 * k.val + r) / 2 = 3 - k.val by omega, show 2 * (2 - (4 - 2 * k.val + r) / 2) + (4 - 2 * k.val + r) % 2 = 2 * k.val + r by omega]

end Cert.KernelIdeal.Hand

end
-- ==== Proof.ILocal.lean ====
/-
# The kernel's local phases

Each phase that only loads and stores, as a rule: from the rows it overwrites at any contents and the
rows it reads at their values, to the same rows at their values.
-/
module

public import proofs.«01_k».proof.Proof.IVal

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-! ## The buffers by rows -/

section Bufs
variable (c : Dev nD) (T : Finset ℕ)
abbrev aE : sProp 𝕄 := RE c cc0_scratch0 (ro (n := 8)) T
abbrev s1E : sProp 𝕄 := RE c cc0_scratch2 (ro (n := 32)) T
abbrev f1E : sProp 𝕄 := RE c cc0_scratch3 (ro (n := 32)) T
abbrev r1E : sProp 𝕄 := RE c cc0_scratch4 (ro (n := 24)) T
abbrev g1E : sProp 𝕄 := RE c cc0_scratch5 (ro (n := 8)) T
abbrev s2E : sProp 𝕄 := RE c cc0_scratch6 (ro (n := 6)) T
abbrev r2E : sProp 𝕄 := RE c cc0_scratch7 (ro (n := 6)) T
abbrev a1B : sProp 𝕄 := RB c cc0_scratch0 (ro (n := 8)) T (st (n := 8) (A1V X W c))
abbrev a2B : sProp 𝕄 := RB c cc0_scratch0 (ro (n := 8)) T (st (n := 8) (A2V X W c))
abbrev s1B : sProp 𝕄 := RB c cc0_scratch2 (ro (n := 32)) T (st (n := 32) (S1V X W c))
abbrev f1B : sProp 𝕄 := RB c cc0_scratch3 (ro (n := 32)) T (st (n := 32) (F1V X W c))
abbrev r1B : sProp 𝕄 := RB c cc0_scratch4 (ro (n := 24)) T (st (n := 24) (R1V X W c))
abbrev g1B : sProp 𝕄 := RB c cc0_scratch5 (ro (n := 8)) T (st (n := 8) (G1V X W c))
abbrev s2B : sProp 𝕄 := RB c cc0_scratch6 (ro (n := 6)) T (st (n := 6) (S2V X W c))
abbrev r2B : sProp 𝕄 := RB c cc0_scratch7 (ro (n := 6)) T (st (n := 6) (R2V X W c))
end Bufs

theorem seg_two (a : ℕ) : seg a 2 = seg a 1 ∪ seg (a + 1) 1 := by
  ext i; simp only [Finset.mem_union, Finset.mem_Ico]; omega
theorem seg_dis (a : ℕ) : Disjoint (seg a 1) (seg (a + 1) 1) := by
  rw [Finset.disjoint_left]; intro i; simp only [Finset.mem_Ico]; omega
theorem seg_sub {a b l l' : ℕ} (h : b ≤ a) (h' : a + l ≤ b + l') : seg a l ⊆ seg b l' := by
  intro i; simp only [Finset.mem_Ico]; omega

section Pairs
variable {c : Dev nD} {b : Ref sig .tc} {ρ : b.ty.Idx → ℕ} {a : ℕ} {V : b.ty.Contents (Elt F)}
omit [FloatOps F] in
theorem RE_pair_split : RE (F := F) c b ρ (seg a 2) ⊢ iprop(RE c b ρ (seg a 1) ∗ RE c b ρ (seg (a + 1) 1)) := by
  rw [seg_two]; exact RE_split (seg_dis a)
omit [FloatOps F] in
theorem RB_pair_split : RB (F := F) c b ρ (seg a 2) V ⊢ iprop(RB c b ρ (seg a 1) V ∗ RB c b ρ (seg (a + 1) 1) V) := by
  rw [seg_two]; exact RB_split (seg_dis a)
omit [FloatOps F] in
theorem RB_pair_join : iprop(RB (F := F) c b ρ (seg a 1) V ∗ RB c b ρ (seg (a + 1) 1) V) ⊢ RB c b ρ (seg a 2) V := by
  rw [seg_two]; exact RB_join (seg_dis a)
end Pairs

/-- The weakest precondition of a program of device `c`'s core. -/
abbrev Wp (c : Dev nD) {α : Type} (p : PR F α) (Q : α → sProp 𝕄) : sProp 𝕄 :=
  wp frame (wpE (defs₀ (F := F)) 𝒱₀ (c : Thread nD τ) none) Set.univ p Q

theorem read_one {α : Type} {n a : ℕ} {off : Fin 3 → ℕ} (h : ∀ x, off x = (![a, 0, 0] : Fin 3 → ℕ) x) (inb : ∀ x, off x + (![1, 32, 1024] : Fin 3 → ℕ) x ≤ (B3 n).size x)
    (V : ℕ → Fin 32 → Fin 1024 → α) (j : (Rect.unit (s := B3 n) off ![1, 32, 1024] inb).shape.Idx) :
    st V ((Rect.unit (s := B3 n) off ![1, 32, 1024] inb).idx j) = V a (j 1) (j 2) := congrFun (read_row h inb V) j

section Phases
variable (c : Dev nD) {α : Type} {Q : α → sProp (MT nD τ sig Unit (Elt F) ℕ UU ℕ)} {K : PR F α}

theorem wp_ops1 (k lc : Fin 4) (b : Fin 2) :
    iprop(s1E (F := F) c (seg (pr c lc.val k.val + b.val) 1) ∗ f1E c (seg (pr c lc.val k.val + b.val) 1))
      ⊢ iprop(((s1B X W c (seg (pr c lc.val k.val + b.val) 1) ∗ f1B X W c (seg (pr c lc.val k.val + b.val) 1)) -∗ Wp c K Q) -∗ Wp c (ops1 c (pz X W c (zn c k.val)) k lc b >>= fun _ => K) Q) := by
  unfold ops1
  simp only [Prog.lift, Prog.bind_op, Prog.bind_ret, Prog.pure_eq_ret]
  have hS := rect_rows (n := 32) (l := 1) (off2_eq c lc k b) (k0_off2_inb c lc k b)
  iintro ⟨Hs, Hf⟩ Hk
  iapply (wp_ld_any (cs := .vmem) (i := cc0_scratch2.idx) (hκ := cc0_scratch2.names) (T := seg (pr c lc.val k.val + b.val) 1) (ρ := ro (n := 32)) hS.subset) $$ Hs
  iintro Hs
  iapply (wp_st (cs := .vmem) (i := cc0_scratch2.idx) (hκ := cc0_scratch2.names) (T := seg (pr c lc.val k.val + b.val) 1) (ρ := ro (n := 32)) (st (n := 32) (S1V X W c)) hS (fun j => (S1V_pr X W c lc k b j).trans (read_one (off2_eq c lc k b) _ _ j).symm)) $$ Hs
  iintro Hs
  iapply (wp_ld_any (cs := .vmem) (i := cc0_scratch3.idx) (hκ := cc0_scratch3.names) (T := seg (pr c lc.val k.val + b.val) 1) (ρ := ro (n := 32)) hS.subset) $$ Hf
  iintro Hf
  iapply (wp_st (cs := .vmem) (i := cc0_scratch3.idx) (hκ := cc0_scratch3.names) (T := seg (pr c lc.val k.val + b.val) 1) (ρ := ro (n := 32)) (st (n := 32) (F1V X W c)) hS (fun j => (F1V_pr X W c lc k b j).trans (read_one (off2_eq c lc k b) _ _ j).symm)) $$ Hf
  iintro Hf
  iapply Hk
  isplitl [Hs]
  · iexact Hs
  · iexact Hf

/-- The two buffers' pair of rows of column `lc`, round `k`: at any contents, and filled. -/
def colE (k lc : Fin 4) : sProp 𝕄 := iprop(s1E (F := F) c (seg (pr c lc.val k.val) 2) ∗ f1E c (seg (pr c lc.val k.val) 2))
def colB (k lc : Fin 4) : sProp 𝕄 := iprop(s1B X W c (seg (pr c lc.val k.val) 2) ∗ f1B X W c (seg (pr c lc.val k.val) 2))

theorem wp_col1 (k lc : Fin 4) :
    colE (F := F) c k lc ⊢ iprop((colB X W c k lc -∗ Wp c K Q)
      -∗ Wp c (ops1 c (pz X W c (zn c k.val)) k lc 0 >>= fun _ => ops1 c (pz X W c (zn c k.val)) k lc 1 >>= fun _ => K) Q) := by
  have h0 := wp_ops1 X W c (Q := Q) (K := ops1 c (pz X W c (zn c k.val)) k lc 1 >>= fun _ => K) k lc 0
  have h1 := wp_ops1 X W c (Q := Q) (K := K) k lc 1
  simp only [Fin.val_zero, Fin.val_one, Nat.add_zero] at h0 h1
  unfold colE colB
  iintro ⟨Hs, Hf⟩ Hk
  ihave Hs := RE_pair_split $$ Hs
  ihave Hf := RE_pair_split $$ Hf
  icases Hs with ⟨Hs0, Hs1⟩
  icases Hf with ⟨Hf0, Hf1⟩
  iapply h0 $$ [Hs0 Hf0]
  · isplitl [Hs0]
    · iexact Hs0
    · iexact Hf0
  iintro ⟨Hs0, Hf0⟩
  iapply h1 $$ [Hs1 Hf1]
  · isplitl [Hs1]
    · iexact Hs1
    · iexact Hf1
  iintro ⟨Hs1, Hf1⟩
  iapply Hk
  isplitl [Hs0 Hs1]
  · iapply RB_pair_join
    isplitl [Hs0]
    · iexact Hs0
    · iexact Hs1
  · iapply RB_pair_join
    isplitl [Hf0]
    · iexact Hf0
    · iexact Hf1

/-- All four columns of round `k` are filled. -/
theorem wp_stores1 (k : Fin 4) :
    iprop(colE (F := F) c k 0 ∗ colE c k 1 ∗ colE c k 2 ∗ colE c k 3)
      ⊢ iprop(((colB X W c k 0 ∗ colB X W c k 1 ∗ colB X W c k 2 ∗ colB X W c k 3) -∗ Wp c K Q)
        -∗ Wp c (stores1 c (pz X W c (zn c k.val)) k >>= fun _ => K) Q) := by
  unfold stores1
  simp only [bind_assoc]
  iintro ⟨H0, H1, H2, H3⟩ Hk
  iapply (wp_col1 X W c k 0) $$ H0
  iintro H0
  iapply (wp_col1 X W c k 1) $$ H1
  iintro H1
  iapply (wp_col1 X W c k 2) $$ H2
  iintro H2
  iapply (wp_col1 X W c k 3) $$ H3
  iintro H3
  iapply Hk
  isplitl [H0]
  · iexact H0
  isplitl [H1]
  · iexact H1
  isplitl [H2]
  · iexact H2
  · iexact H3

/-- The device's own column of round `k` is kept. -/
theorem wp_storeA (k : Fin 4) :
    aE (F := F) c (seg (2 * zn c k.val) 2) ⊢ iprop((a1B X W c (seg (2 * zn c k.val) 2) -∗ Wp c K Q) -∗ Wp c (storeA c (pz X W c (zn c k.val)) k >>= fun _ => K) Q) := by
  unfold storeA
  simp only [Prog.lift, Prog.bind_op, Prog.bind_ret, Prog.pure_eq_ret]
  have hS := rect_rows (n := 8) (l := 2) (off4_eq c k) (k0_off4_inb c k)
  iintro H Hk
  iapply (wp_ld_any (cs := .vmem) (i := cc0_scratch0.idx) (hκ := cc0_scratch0.names) (T := seg (2 * zn c k.val) 2) (ρ := ro (n := 8)) hS.subset) $$ H
  iintro H
  iapply (wp_st (cs := .vmem) (i := cc0_scratch0.idx) (hκ := cc0_scratch0.names) (T := seg (2 * zn c k.val) 2) (ρ := ro (n := 8)) (st (n := 8) (A1V X W c)) hS (fun j => (A1V_zn X W c k.val j).trans (read_pair (off4_eq c k) _ _ j).symm)) $$ H
  iintro H
  iapply Hk
  iexact H

theorem rows_seg {n a b l l' : ℕ} (h : b ≤ a) (h' : a + l ≤ b + l') : rows (ro (n := n)) (seg a l) ⊆ rows ro (seg b l') := rows_mono _ (seg_sub h h')

/-- Row `b` of the square's sum for the `k`-th plane on. -/
theorem wp_ops2 (k : Fin 3) (b : Fin 2) :
    iprop(a1B X W c (seg (2 * zn c k.val) 2) ∗ r1B X W c (seg (2 * k.val) 2) ∗ g1B X W c (seg (2 * k.val) 2) ∗ r1B X W c (seg (16 + 2 * k.val) 2) ∗ s2E (F := F) c (seg (2 * k.val + b.val) 1))
      ⊢ iprop(((a1B X W c (seg (2 * zn c k.val) 2) ∗ r1B X W c (seg (2 * k.val) 2) ∗ g1B X W c (seg (2 * k.val) 2) ∗ r1B X W c (seg (16 + 2 * k.val) 2) ∗ s2B X W c (seg (2 * k.val + b.val) 1)) -∗ Wp c K Q)
        -∗ Wp c (ops2 c k b >>= fun _ => K) Q) := by
  unfold ops2
  simp only [Prog.lift, Prog.bind_op, Prog.bind_ret, Prog.pure_eq_ret]
  have hb := b.isLt
  have hl : ∀ x, (![2 * k.val + b.val, 0, 0] : Fin 3 → ℕ) x = (![2 * k.val + b.val, 0, 0] : Fin 3 → ℕ) x := fun _ => rfl
  have hh : ∀ x, (![16 + 2 * k.val + b.val, 0, 0] : Fin 3 → ℕ) x = (![16 + 2 * k.val + b.val, 0, 0] : Fin 3 → ℕ) x := fun _ => rfl
  have hS := rect_rows (n := 6) (l := 1) hl (inbS21 k b)
  iintro ⟨Ha, Hl, Hg, Hh, Hs⟩ Hk
  iapply (wp_ld (cs := .vmem) (i := cc0_scratch0.idx) (hκ := cc0_scratch0.names) (T := seg (2 * zn c k.val) 2) (ρ := ro (n := 8)) ((rect_rows (n := 8) (l := 1) (off5_eq c k b) (k0_off5_inb c k b)).trans_subset (rows_seg (by omega) (by omega))) (read_row (n := 8) (off5_eq c k b) (k0_off5_inb c k b) (A1V X W c))) $$ Ha
  iintro Ha
  iapply (wp_ld (cs := .vmem) (i := cc0_scratch4.idx) (hκ := cc0_scratch4.names) (T := seg (2 * k.val) 2) (ρ := ro (n := 24)) ((rect_rows (n := 24) (l := 1) hl (inbLo1 (k3 k) b)).trans_subset (rows_seg (by omega) (by omega))) (read_row (n := 24) hl (inbLo1 (k3 k) b) (R1V X W c))) $$ Hl
  iintro Hl
  iapply (wp_ld (cs := .vmem) (i := cc0_scratch5.idx) (hκ := cc0_scratch5.names) (T := seg (2 * k.val) 2) (ρ := ro (n := 8)) ((rect_rows (n := 8) (l := 1) hl (inbG1 (k3 k) b)).trans_subset (rows_seg (by omega) (by omega))) (read_row (n := 8) hl (inbG1 (k3 k) b) (G1V X W c))) $$ Hg
  iintro Hg
  iapply (wp_ld (cs := .vmem) (i := cc0_scratch4.idx) (hκ := cc0_scratch4.names) (T := seg (16 + 2 * k.val) 2) (ρ := ro (n := 24)) ((rect_rows (n := 24) (l := 1) hh (inbHi1 (k3 k) b)).trans_subset (rows_seg (by omega) (by omega))) (read_row (n := 24) hh (inbHi1 (k3 k) b) (R1V X W c))) $$ Hh
  iintro Hh
  iapply (wp_ld_any (cs := .vmem) (i := cc0_scratch6.idx) (hκ := cc0_scratch6.names) (T := seg (2 * k.val + b.val) 1) (ρ := ro (n := 6)) hS.subset) $$ Hs
  iintro Hs
  iapply (wp_st (cs := .vmem) (i := cc0_scratch6.idx) (hκ := cc0_scratch6.names) (T := seg (2 * k.val + b.val) 1) (ρ := ro (n := 6)) (st (n := 6) (S2V X W c)) hS (fun j => (S2V_k X W c k b j).trans (read_one hl _ _ j).symm)) $$ Hs
  iintro Hs
  iapply Hk
  isplitl [Ha]
  · iexact Ha
  isplitl [Hl]
  · iexact Hl
  isplitl [Hg]
  · iexact Hg
  isplitl [Hh]
  · iexact Hh
  · iexact Hs

/-- Row `b` of the square's sum for `c`'s own plane. -/
theorem wp_opsA (b : Fin 2) :
    iprop(a1B X W c (seg (2 * zn c 3 + b.val) 1) ∗ r1B X W c (seg 6 2) ∗ g1B X W c (seg 6 2) ∗ r1B X W c (seg 22 2))
      ⊢ iprop(((a2B X W c (seg (2 * zn c 3 + b.val) 1) ∗ r1B X W c (seg 6 2) ∗ g1B X W c (seg 6 2) ∗ r1B X W c (seg 22 2)) -∗ Wp c K Q)
        -∗ Wp c (opsA c b >>= fun _ => K) Q) := by
  unfold opsA
  simp only [Prog.lift, Prog.bind_op, Prog.bind_ret, Prog.pure_eq_ret]
  have hb := b.isLt
  have hl : ∀ x, (![2 * (3 : Fin 4).val + b.val, 0, 0] : Fin 3 → ℕ) x = (![6 + b.val, 0, 0] : Fin 3 → ℕ) x := fun _ => rfl
  have hh : ∀ x, (![16 + 2 * (3 : Fin 4).val + b.val, 0, 0] : Fin 3 → ℕ) x = (![22 + b.val, 0, 0] : Fin 3 → ℕ) x := fun _ => rfl
  have hS := rect_rows (n := 8) (l := 1) (off6_eq c b) (k0_off6_inb c b)
  iintro ⟨Ha, Hl, Hg, Hh⟩ Hk
  iapply (wp_ld (cs := .vmem) (i := cc0_scratch0.idx) (hκ := cc0_scratch0.names) (T := seg (2 * zn c 3 + b.val) 1) (ρ := ro (n := 8)) hS.subset (read_row (n := 8) (off6_eq c b) (k0_off6_inb c b) (A1V X W c))) $$ Ha
  iintro Ha
  iapply (wp_ld (cs := .vmem) (i := cc0_scratch4.idx) (hκ := cc0_scratch4.names) (T := seg 6 2) (ρ := ro (n := 24)) ((rect_rows (n := 24) (l := 1) hl (inbLo1 3 b)).trans_subset (rows_seg (by omega) (by omega))) (read_row (n := 24) hl (inbLo1 3 b) (R1V X W c))) $$ Hl
  iintro Hl
  iapply (wp_ld (cs := .vmem) (i := cc0_scratch5.idx) (hκ := cc0_scratch5.names) (T := seg 6 2) (ρ := ro (n := 8)) ((rect_rows (n := 8) (l := 1) hl (inbG1 3 b)).trans_subset (rows_seg (by omega) (by omega))) (read_row (n := 8) hl (inbG1 3 b) (G1V X W c))) $$ Hg
  iintro Hg
  iapply (wp_ld (cs := .vmem) (i := cc0_scratch4.idx) (hκ := cc0_scratch4.names) (T := seg 22 2) (ρ := ro (n := 24)) ((rect_rows (n := 24) (l := 1) hh (inbHi1 3 b)).trans_subset (rows_seg (by omega) (by omega))) (read_row (n := 24) hh (inbHi1 3 b) (R1V X W c))) $$ Hh
  iintro Hh
  ihave Ha := RB_RE $$ Ha
  iapply (wp_ld_any (cs := .vmem) (i := cc0_scratch0.idx) (hκ := cc0_scratch0.names) (T := seg (2 * zn c 3 + b.val) 1) (ρ := ro (n := 8)) hS.subset) $$ Ha
  iintro Ha
  iapply (wp_st (cs := .vmem) (i := cc0_scratch0.idx) (hκ := cc0_scratch0.names) (T := seg (2 * zn c 3 + b.val) 1) (ρ := ro (n := 8)) (st (n := 8) (A2V X W c)) hS (fun j => (A2V_b X W c b j).trans (read_one (off6_eq c b) _ _ j).symm)) $$ Ha
  iintro Ha
  iapply Hk
  isplitl [Ha]
  · iexact Ha
  isplitl [Hl]
  · iexact Hl
  isplitl [Hg]
  · iexact Hg
  · iexact Hh

end Phases

end Cert.KernelIdeal.Hand

end
-- ==== Proof.IWhole.lean ====
/-
# The kernel's local phases over whole buffers
-/
module

public import proofs.«01_k».proof.Proof.ILocal

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-! ## A buffer owned whole -/

/-- Device `c` owns all of buffer `b`, at contents `V`; at some contents. -/
abbrev WB (c : Dev nD) (b : Ref sig .tc) (V : b.ty.Contents (Elt F)) : sProp 𝕄 := RB c b (fun _ => 0) {0} V
abbrev WE (c : Dev nD) (b : Ref sig .tc) : sProp 𝕄 := RE (F := F) c b (fun _ => 0) {0}

theorem rows_all {I : Type} [Fintype I] : rows (fun _ : I => 0) {0} = Finset.univ := by ext i; simp [mem_rows]
omit [FloatOps F] in
theorem WB_eq (c : Dev nD) (b : Ref sig .tc) (V : b.ty.Contents (Elt F)) : WB c b V = (((c : Thread nD τ).loc b) ↦{fullShare} V : sProp 𝕄) := by
  unfold WB RB; rw [rows_all]

theorem unit_zero_set {s : Shape} {off : Fin s.rank → ℕ} (h : ∀ a, off a = 0) (inb) : (Rect.unit (s := s) off s.size inb).set = Finset.univ := by
  ext i
  rw [Rect.mem_set_unit]
  simp only [h, Finset.mem_univ, iff_true, Nat.zero_add]
  exact fun a => ⟨Nat.zero_le _, (i a).isLt⟩
theorem unit_zero_idx {s : Shape} {off : Fin s.rank → ℕ} (h : ∀ a, off a = 0) (inb) (j) : (Rect.unit (s := s) off s.size inb).idx j = j := by
  funext a; apply Fin.ext; show off a + 1 * (j a).val = (j a).val; rw [h a]; omega

theorem z2 : ∀ a, (![0, 0] : Fin 2 → ℕ) a = 0 := by decide
theorem z3 : ∀ a, (![0, 0, 0] : Fin 3 → ℕ) a = 0 := by decide

/-- The pair's copy to the other square, and what follows the four loads of the last phase. -/
def send3 (n : Dev nD) : PR F PUnit := Prog.lift (.enqueueDma s3M (.remote (Dev.tc n) r3M (.dma s3S)) (.dma r3S) xS3 xR3 ⟨⟨rfl, Or.inl rfl⟩, trivial⟩)
def wait3 : PR F PUnit := Prog.lift (.waitDma2 r3S s3M r3M xS3 xR3)
def out4 (va : Vec F S1x32x1024 .f32) (v0 v1 v2 : Vec F S1x32x1024 .bf16) : PR F PUnit := do
  let v3 ← Prog.lift (.load r3M (Rect.unit (s := S32x1024) ![0, 0] S32x1024.size inb_S32x1024_S32x1024_0_0).toLoadRect (View.loadsAt_vmem h_S32x1024))
  let _v ← Prog.lift (.load oM (Rect.unit (s := S32x1024) ![0, 0] S32x1024.size inb_S32x1024_S32x1024_0_0).toLoadRect (View.loadsAt_vmem h_S32x1024))
  Prog.lift (.store oM (Rect.unit (s := S32x1024) ![0, 0] S32x1024.size inb_S32x1024_S32x1024_0_0) (k0_pay109 va v0 v1 v2 v3) Finset.univ (View.stores_vmem_bits_univ h_S32x1024 rfl) (.inl rfl))

section Phases
variable (c : Dev nD) {α : Type} {Q : α → sProp (MT nD τ sig Unit (Elt F) ℕ UU ℕ)} {K : PR F α}

/-- The inputs read, the first regrouped in scratch. -/
theorem wp_readIn {K : FVec F S32x1024 .bf16 → PR F α} :
    iprop(WB c cc0_stg0_0 (X c) ∗ WB c cc0_stg1_0 (W c) ∗ WE (F := F) c cc0_scratch1)
      ⊢ iprop(((WB c cc0_stg0_0 (X c) ∗ WB c cc0_stg1_0 (W c) ∗ WB c cc0_scratch1 (k0_pay1 (X c))) -∗ Wp c (K (k0_pay2 (W c))) Q)
        -∗ Wp c (readIn >>= K) Q) := by
  unfold readIn
  simp only [Prog.lift, Prog.bind_op, Prog.bind_ret, Prog.pure_eq_ret]
  iintro ⟨Hx, Hw, H3⟩ Hk
  iapply (wp_ld (cs := .vmem) (i := cc0_stg0_0.idx) (hκ := cc0_stg0_0.names) (T := {0}) (ρ := fun _ => 0) (by rw [rows_all]; exact Finset.subset_univ _)
    (funext fun j => congrArg (X c) (unit_zero_idx z2 inb_S1024x32_S1024x32_0_0 j))) $$ Hx
  iintro Hx
  iapply (wp_ld_any (cs := .vmem) (i := cc0_scratch1.idx) (hκ := cc0_scratch1.names) (T := {0}) (ρ := fun _ => 0) (by rw [rows_all]; exact Finset.subset_univ _)) $$ H3
  iintro H3
  iapply (wp_st (cs := .vmem) (i := cc0_scratch1.idx) (hκ := cc0_scratch1.names) (T := {0}) (ρ := fun _ => 0) (k0_pay1 (X c)) ((unit_zero_set z3 inb_S32x32x32_S32x32x32_0_0_0).trans rows_all.symm)
    (fun j => (congrArg (k0_pay1 (X c)) (unit_zero_idx z3 inb_S32x32x32_S32x32x32_0_0_0 j)).symm)) $$ H3
  iintro H3
  iapply (wp_ld (cs := .vmem) (i := cc0_stg1_0.idx) (hκ := cc0_stg1_0.names) (T := {0}) (ρ := fun _ => 0) (by rw [rows_all]; exact Finset.subset_univ _)
    (funext fun j => congrArg (W c) (unit_zero_idx z2 inb_S32x1024_S32x1024_0_0 j))) $$ Hw
  iintro Hw
  iapply Hk
  isplitl [Hx]
  · iexact Hx
  isplitl [Hw]
  · iexact Hw
  · iexact H3

theorem wp_loadX {K : Vec F S8x32x32 .bf16 → PR F α} (k : Fin 4) :
    WB c cc0_scratch1 (k0_pay1 (X c))
      ⊢ iprop((WB c cc0_scratch1 (k0_pay1 (X c)) -∗ Wp c (K (fun j : S8x32x32.Idx => x3 X c (8 * zn c k.val + (j 0).val) (j 1) (j 2))) Q)
        -∗ Wp c (loadX c k >>= K) Q) := by
  unfold loadX
  simp only [Prog.lift, Prog.bind_op, Prog.bind_ret, Prog.pure_eq_ret]
  iintro Hx Hk
  iapply (wp_ld (cs := .vmem) (i := cc0_scratch1.idx) (hκ := cc0_scratch1.names) (T := {0}) (ρ := fun _ => 0) (by rw [rows_all]; exact Finset.subset_univ _)
    (loadX_val X c k)) $$ Hx
  iintro Hx
  iapply Hk
  iexact Hx

/-- Everything the last two phases read. -/
def lastIn : sProp 𝕄 := iprop(a2B X W c (seg (2 * zn c 3) 2) ∗ r2B X W c (seg 0 2) ∗ r2B X W c (seg 2 2) ∗ r2B X W c (seg 4 2))

theorem qh_lt : qh c < 2 := Nat.mod_lt _ (by decide)

theorem wp_part3 (n : Dev nD) :
    iprop(lastIn X W c ∗ WE (F := F) c cc0_scratch8)
      ⊢ iprop(((lastIn X W c ∗ WB c cc0_scratch8 (S3V X W c)) -∗ Wp c (send3 n >>= fun _ => K) Q)
        -∗ Wp c (part3 c n >>= fun _ => K) Q) := by
  have hq := qh_lt c
  unfold part3 send3 lastIn
  simp only [Prog.lift, Prog.bind_op, Prog.bind_ret, Prog.pure_eq_ret]
  iintro ⟨⟨Ha, H0, H1, H2⟩, H3⟩ Hk
  iapply (wp_ld (cs := .vmem) (i := cc0_scratch0.idx) (hκ := cc0_scratch0.names) (T := seg (2 * zn c 3) 2) (ρ := ro (n := 8)) ((rect_rows (n := 8) (l := 1) (off7_eq c) (k0_off7_inb c)).trans_subset (rows_seg (by omega) (by omega))) (read_row (n := 8) (off7_eq c) (k0_off7_inb c) (A2V X W c))) $$ Ha
  iintro Ha
  iapply (wp_ld (cs := .vmem) (i := cc0_scratch7.idx) (hκ := cc0_scratch7.names) (T := seg 0 2) (ρ := ro (n := 6)) ((rect_rows (n := 6) (l := 1) (off8_eq c) (k0_off8_inb c)).trans_subset (rows_seg (by omega) (by omega))) (read_row (n := 6) (off8_eq c) (k0_off8_inb c) (R2V X W c))) $$ H0
  iintro H0
  iapply (wp_ld (cs := .vmem) (i := cc0_scratch7.idx) (hκ := cc0_scratch7.names) (T := seg 2 2) (ρ := ro (n := 6)) ((rect_rows (n := 6) (l := 1) (a := 2 + (1 - qh c)) (off9_eq c 0) (k0_off9_inb c 0)).trans_subset (rows_seg (by omega) (by omega))) (read_row (n := 6) (a := 2 + (1 - qh c)) (off9_eq c 0) (k0_off9_inb c 0) (R2V X W c))) $$ H1
  iintro H1
  iapply (wp_ld (cs := .vmem) (i := cc0_scratch7.idx) (hκ := cc0_scratch7.names) (T := seg 4 2) (ρ := ro (n := 6)) ((rect_rows (n := 6) (l := 1) (a := 4 + (1 - qh c)) (off9_eq c 1) (k0_off9_inb c 1)).trans_subset (rows_seg (by omega) (by omega))) (read_row (n := 6) (a := 4 + (1 - qh c)) (off9_eq c 1) (k0_off9_inb c 1) (R2V X W c))) $$ H2
  iintro H2
  iapply (wp_ld_any (cs := .vmem) (i := cc0_scratch8.idx) (hκ := cc0_scratch8.names) (T := {0}) (ρ := fun _ => 0) (by rw [rows_all]; exact Finset.subset_univ _)) $$ H3
  iintro H3
  iapply (wp_st (cs := .vmem) (i := cc0_scratch8.idx) (hκ := cc0_scratch8.names) (T := {0}) (ρ := fun _ => 0) (S3V X W c) ((unit_zero_set z2 inb_S32x1024_S32x1024_0_0).trans rows_all.symm)
    (fun j => (congrArg (S3V X W c) (unit_zero_idx z2 inb_S32x1024_S32x1024_0_0 j)).symm)) $$ H3
  iintro H3
  iapply Hk
  isplitl [Ha H0 H1 H2]
  · isplitl [Ha]
    · iexact Ha
    isplitl [H0]
    · iexact H0
    isplitl [H1]
    · iexact H1
    · iexact H2
  · iexact H3

theorem wp_part4a :
    lastIn X W c
      ⊢ iprop((lastIn X W c -∗ Wp c (wait3 >>= fun _ => out4 (row (A2V X W c) (2 * zn c 3 + qh c)) (row (R2V X W c) (qh c)) (row (R2V X W c) (2 + qh c)) (row (R2V X W c) (4 + qh c)) >>= fun _ => K) Q)
        -∗ Wp c (part4 c >>= fun _ => K) Q) := by
  have hq := qh_lt c
  unfold part4 wait3 out4 lastIn
  simp only [Prog.lift, Prog.bind_op, Prog.bind_ret, Prog.pure_eq_ret]
  iintro ⟨Ha, H0, H1, H2⟩ Hk
  iapply (wp_ld (cs := .vmem) (i := cc0_scratch0.idx) (hκ := cc0_scratch0.names) (T := seg (2 * zn c 3) 2) (ρ := ro (n := 8)) ((rect_rows (n := 8) (l := 1) (off10_eq c) (k0_off10_inb c)).trans_subset (rows_seg (by omega) (by omega))) (read_row (n := 8) (off10_eq c) (k0_off10_inb c) (A2V X W c))) $$ Ha
  iintro Ha
  iapply (wp_ld (cs := .vmem) (i := cc0_scratch7.idx) (hκ := cc0_scratch7.names) (T := seg 0 2) (ρ := ro (n := 6)) ((rect_rows (n := 6) (l := 1) (off11_eq c) (k0_off11_inb c)).trans_subset (rows_seg (by omega) (by omega))) (read_row (n := 6) (off11_eq c) (k0_off11_inb c) (R2V X W c))) $$ H0
  iintro H0
  iapply (wp_ld (cs := .vmem) (i := cc0_scratch7.idx) (hκ := cc0_scratch7.names) (T := seg 2 2) (ρ := ro (n := 6)) ((rect_rows (n := 6) (l := 1) (a := 2 + qh c) (off12_eq c 0) (k0_off12_inb c 0)).trans_subset (rows_seg (by omega) (by omega))) (read_row (n := 6) (a := 2 + qh c) (off12_eq c 0) (k0_off12_inb c 0) (R2V X W c))) $$ H1
  iintro H1
  iapply (wp_ld (cs := .vmem) (i := cc0_scratch7.idx) (hκ := cc0_scratch7.names) (T := seg 4 2) (ρ := ro (n := 6)) ((rect_rows (n := 6) (l := 1) (a := 4 + qh c) (off12_eq c 1) (k0_off12_inb c 1)).trans_subset (rows_seg (by omega) (by omega))) (read_row (n := 6) (a := 4 + qh c) (off12_eq c 1) (k0_off12_inb c 1) (R2V X W c))) $$ H2
  iintro H2
  iapply Hk
  isplitl [Ha]
  · iexact Ha
  isplitl [H0]
  · iexact H0
  isplitl [H1]
  · iexact H1
  · iexact H2

theorem wp_out4 :
    iprop(WB c cc0_scratch9 (R3V X W c) ∗ WE (F := F) c cc0_stg2_0)
      ⊢ iprop(((WB c cc0_scratch9 (R3V X W c) ∗ WB c cc0_stg2_0 (outV X W c)) -∗ Wp c K Q)
        -∗ Wp c (out4 (row (A2V X W c) (2 * zn c 3 + qh c)) (row (R2V X W c) (qh c)) (row (R2V X W c) (2 + qh c)) (row (R2V X W c) (4 + qh c)) >>= fun _ => K) Q) := by
  unfold out4
  simp only [Prog.lift, Prog.bind_op, Prog.bind_ret, Prog.pure_eq_ret]
  iintro ⟨H3, Ho⟩ Hk
  iapply (wp_ld (cs := .vmem) (i := cc0_scratch9.idx) (hκ := cc0_scratch9.names) (T := {0}) (ρ := fun _ => 0) (by rw [rows_all]; exact Finset.subset_univ _)
    (funext fun j => congrArg (R3V X W c) (unit_zero_idx z2 inb_S32x1024_S32x1024_0_0 j))) $$ H3
  iintro H3
  iapply (wp_ld_any (cs := .vmem) (i := cc0_stg2_0.idx) (hκ := cc0_stg2_0.names) (T := {0}) (ρ := fun _ => 0) (by rw [rows_all]; exact Finset.subset_univ _)) $$ Ho
  iintro Ho
  iapply (wp_st (cs := .vmem) (i := cc0_stg2_0.idx) (hκ := cc0_stg2_0.names) (T := {0}) (ρ := fun _ => 0) (outV X W c) ((unit_zero_set z2 inb_S32x1024_S32x1024_0_0).trans rows_all.symm)
    (fun j => (congrArg (outV X W c) (unit_zero_idx z2 inb_S32x1024_S32x1024_0_0 j)).symm)) $$ Ho
  iintro Ho
  iapply Hk
  isplitl [H3]
  · iexact H3
  · iexact Ho
end Phases

end Cert.KernelIdeal.Hand

end
-- ==== Proof.ISched.lean ====
/-
# The exchange's schedule

Every device has ten semaphore cells. Each has one round; this module says which payments (duties) it
consists of, what each hands over, in which order a device makes its payments, and gives the rules
for a signal, a copy and a wait at these cells.
-/
module

public import proofs.«01_k».proof.Proof.IWhole

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-! ## The cells -/

/-- The semaphores: the barrier; sends inside the square; arrivals inside the square by round; sends and
    arrivals between planes; send and arrival between squares. -/
abbrev csem : Fin 10 → SemLoc sig := fun
  | 0 => .reg barS | 1 => .dma s1S | 2 => .dma (r1S 0) | 3 => .dma (r1S 1) | 4 => .dma (r1S 2) | 5 => .dma (r1S 3)
  | 6 => .dma s2S | 7 => .dma r2S | 8 => .dma s3S | 9 => .dma r3S
abbrev kcell (ck : Dev nD × Fin 10) : GSem nD τ sig := ((ck.1 : Thread nD τ), csem ck.2)

/-- The number of a semaphore, ten for any other. -/
def jx (s : SemLoc sig) : ℕ :=
  if s = csem 0 then 0 else if s = csem 1 then 1 else if s = csem 2 then 2 else if s = csem 3 then 3 else if s = csem 4 then 4
  else if s = csem 5 then 5 else if s = csem 6 then 6 else if s = csem 7 then 7 else if s = csem 8 then 8 else if s = csem 9 then 9 else 10
theorem jx_csem : ∀ j : Fin 10, jx (csem j) = j.val := by decide

/-- The credits of the four kinds of copy. -/
abbrev N1 : ℕ := (hiDst 0).view.dmaCredit
abbrev N1f : ℕ := (gDst 0).view.dmaCredit
abbrev N2 : ℕ := (r2Dst 0).view.dmaCredit
abbrev N3 : ℕ := (r3M : Memref sig .tc .vmem S32x1024 .bf16).view.dmaCredit

theorem N1_pos : 0 < N1 := View.dmaCredit_pos _ (by decide)
theorem N1f_pos : 0 < N1f := View.dmaCredit_pos _ (by decide)
theorem N2_pos : 0 < N2 := View.dmaCredit_pos _ (by decide)
theorem N3_pos : 0 < N3 := View.dmaCredit_pos _ (by decide)

theorem credit_hi (k : Fin 4) : (hiDst k).view.dmaCredit = N1 := rfl
theorem credit_lo (k : Fin 4) : (loDst k).view.dmaCredit = N1 := rfl
theorem credit_g (k : Fin 4) : (gDst k).view.dmaCredit = N1f := rfl
theorem credit_r2 (k : Fin 3) : (r2Dst k).view.dmaCredit = N2 := rfl
theorem credit_s (c : Dev nD) (dd : Fin 3) (k : Fin 4) : (sSrc c dd k).view.dmaCredit = N1 := rfl
theorem credit_f (c : Dev nD) (k : Fin 4) : (fSrc c k).view.dmaCredit = N1f := rfl
theorem credit_s2 (k : Fin 3) : (s2Src k).view.dmaCredit = N2 := rfl
theorem credit_s3 : (s3M : Memref sig .tc .vmem S32x1024 .bf16).view.dmaCredit = N3 := rfl

/-! ## Duties -/

/-- How many payments a cell's round consists of, and how many units each is of. -/
def cnt (j : ℕ) : ℕ := if j = 0 then 7 else if j = 1 then 12 else if j < 8 then 3 else if j < 10 then 1 else 0
def amt (j d : ℕ) : ℕ :=
  if j = 0 then 1 else if j < 6 then (if d % 3 = 1 then N1f else N1) else if j < 8 then N2 else N3
theorem amt_pos (j d : ℕ) : 0 < amt j d := by
  unfold amt
  have h1 := N1_pos; have h2 := N1f_pos; have h3 := N2_pos; have h4 := N3_pos
  (repeat' split) <;> first | omega | assumption

/-- What device `c`'s barrier payment `d` hands over: the rows that payment's receiver will write on `c`. -/
def give (c : Dev nD) (d : ℕ) : sProp 𝕄 :=
  if d = 0 then r1E (F := F) c (seg 0 8) else if d = 1 then g1E c (seg 0 8) else if d = 2 then r1E c (seg 16 8)
  else if d = 3 then r2E c (seg 0 2) else if d = 4 then r2E c (seg 2 2) else if d = 5 then r2E c (seg 4 2) else WE c cc0_scratch9
/-- The payment with barrier duty number `d`. -/
def barIx (d : ℕ) : Fin 23 := ⟨d % 23, Nat.mod_lt _ (by decide)⟩
/-- What copy `d` of round `k` inside the square delivers to `t`, and returns to its sender `c`. -/
def got1 (t : Dev nD) (k d : ℕ) : sProp 𝕄 :=
  if d = 0 then r1B X W t (seg (16 + 2 * k) 2) else if d = 1 then g1B X W t (seg (2 * k) 2) else r1B X W t (seg (2 * k) 2)
def back1 (c : Dev nD) (d : ℕ) : sProp 𝕄 :=
  if d % 3 = 1 then f1E (F := F) c (seg (pr c ((ql c + 1 + d % 3) % 4) (d / 3)) 2) else s1E c (seg (pr c ((ql c + 1 + d % 3) % 4) (d / 3)) 2)
/-- What duty `d` of cell `j` of device `t` hands `t`. -/
def pay (t : Dev nD) (j d : ℕ) : sProp 𝕄 :=
  if j = 0 then give (src t (barIx d)) d else if j = 1 then back1 t d else if j < 6 then got1 X W t (j - 2) d
  else if j = 6 then s2E t (seg (2 * d) 2) else if j = 7 then r2B X W t (seg (4 - 2 * d) 2)
  else if j = 8 then WE t cc0_scratch8 else WB t cc0_scratch9 (R3V X W t)

instance pay_storable (t : Dev nD) (j d : ℕ) : BI.Storable (upEmb : UEmb _ 𝕄) (pay X W t j d) := by
  unfold pay give back1 got1
  (repeat' split) <;> infer_instance

def Rd : Rounds.Schedule (GSem nD τ sig) (Fin 12) 𝕄 where
  duties g r := if r = 0 ∧ g.1.2 = .tc then Finset.univ.filter (fun d => d.val < cnt (jx g.2)) else ∅
  unitless _ := False
  amount g _ d := amt (jx g.2) d.val
  payload g _ d := pay X W g.1.1 (jx g.2) d.val
  amount_pos g _ d _ := amt_pos _ _

instance Rd_payload_storable (g : GSem nD τ sig) (r : ℕ) (d : Fin 12) : BI.Storable (upEmb : UEmb _ 𝕄) ((Rd X W).payload g r d) :=
  pay_storable X W _ _ _

section Sched
variable (c : Dev nD) (j : Fin 10)

/-- The duties of cell `j`. -/
abbrev dts : Finset (Fin 12) := Finset.univ.filter (fun d => d.val < cnt j.val)
theorem duties_eq : (Rd X W).duties (kcell (c, j)) 0 = dts j := by
  unfold Rd
  dsimp only
  rw [if_pos ⟨rfl, rfl⟩, jx_csem]
theorem amount_eq (d : Fin 12) : (Rd X W).amount (kcell (c, j)) 0 d = amt j.val d.val := by
  show amt (jx (csem j)) d.val = _; rw [jx_csem]
theorem payload_eq (d : Fin 12) : (Rd X W).payload (kcell (c, j)) 0 d = pay X W c j.val d.val := by
  show pay X W c (jx (csem j)) d.val = _; rw [jx_csem]
theorem duties_later (g : GSem nD τ sig) : ∀ r, 1 ≤ r → (Rd X W).duties g r = ∅ :=
  fun r hr => if_neg fun h => by omega
theorem expect_eq : (Rd X W).expect (kcell (c, j)) 0 = ∑ d ∈ dts j, amt j.val d.val := by
  unfold Schedule.expect Schedule.amountOf
  rw [duties_eq]
  exact Finset.sum_congr rfl fun d _ => amount_eq X W c j d
end Sched

/-! ## Payments and levels -/

/-- The cell, the duty and the amount of payment `i`. -/
def pj (i : Fin 23) : Fin 10 :=
  if i.val < 7 then 0 else if i.val < 10 then 2 else if i.val < 13 then 3 else if i.val < 16 then 4 else if i.val < 19 then 5 else if i.val < 22 then 7 else 9
set_option backward.proofsInPublic true in
def pd (i : Fin 23) : Fin 12 := ⟨(if i.val < 7 then i.val else if i.val < 19 then (i.val - 7) % 3 else if i.val < 22 then i.val - 19 else 0) % 12, Nat.mod_lt _ (by decide)⟩
def pcell (c : Dev nD) (i : Fin 23) : GSem nD τ sig := kcell (tgt c i, pj i)
def pam (i : Fin 23) : ℕ := amt (pj i).val (pd i).val

theorem pd_mem : ∀ i : Fin 23, pd i ∈ dts (pj i) := by decide

/-- What device `c` owes once it has made its first `n` payments. -/
def owe (c : Dev nD) (n : ℕ) : CellTallies nD τ sig Unit := ∑ i ∈ Finset.univ.filter (fun i : Fin 23 => n ≤ i.val), tallyAt (pcell c i) () (pam i)

theorem owe_step (c : Dev nD) (i : Fin 23) : owe c i.val = owe c (i.val + 1) + tallyAt (pcell c i) () (pam i) := by
  unfold owe
  rw [show Finset.univ.filter (fun x : Fin 23 => i.val ≤ x.val) = insert i (Finset.univ.filter (fun x : Fin 23 => i.val + 1 ≤ x.val)) by
    ext x; simp only [Finset.mem_filter, Finset.mem_univ, true_and, Finset.mem_insert, Fin.ext_iff]; omega,
    Finset.sum_insert (by simp), add_comm]
theorem owe_end (c : Dev nD) : owe c 23 = 0 := by
  unfold owe
  rw [show Finset.univ.filter (fun x : Fin 23 => 23 ≤ x.val) = ∅ by ext x; simp only [Finset.mem_filter, Finset.mem_univ, true_and, Finset.notMem_empty, iff_false]; omega]
  exact Finset.sum_empty

theorem owe_pos {c : Dev nD} {n : ℕ} {g : GSem nD τ sig} {u : Unit} (h : 0 < owe c n g u) : ∃ i : Fin 23, n ≤ i.val ∧ g = pcell c i := by
  by_contra hn
  push Not at hn
  have : owe c n g u = 0 := by
    unfold owe
    rw [Finset.sum_apply, Finsupp.finset_sum_apply]
    refine Finset.sum_eq_zero fun i hi => ?_
    rw [tallyAt_apply, if_neg fun h' => hn i (Finset.mem_filter.mp hi).2 h'.1]
  omega

def L (g : GSem nD τ sig) : Finset Unit := if g.1.2 = .tc then {()} else ∅
def lvj (j : ℕ) : ℕ := if j = 0 then 1 else if j = 1 then 0 else if j < 6 then 2 else if j = 7 then 3 else if j = 9 then 4 else 0
/-- Arrivals above the barrier, in the order of the exchanges; staging and send cells at the bottom. -/
def lv (g : GSem nD τ sig) (_ : Unit) : ℕ := lvj (jx g.2)

theorem L_of_ne (g : GSem nD τ sig) (h : g.1.2 ≠ .tc) : L g = ∅ := if_neg h
theorem L_tc (c : Dev nD) (sm : SemLoc sig) : L ((c : Thread nD τ), sm) = {()} := if_pos rfl
theorem lv_pcell (c : Dev nD) (i : Fin 23) : lv (pcell c i) () = lvj (pj i).val := by
  unfold lv pcell kcell; rw [jx_csem]

omit [FloatOps F] in
/-- A device that has made `n` payments may wait on a cell below every payment it still owes. -/
theorem mayWait (c : Dev nD) (sm : SemLoc sig) (n : ℕ) (h : ∀ i : Fin 23, n ≤ i.val → lvj (jx sm) < lvj (pj i).val) :
    (levAts L lv : sProp 𝕄) ⊢ MayWait (c : Thread nD τ) sm () (owe c n) :=
  MayOwe.of_cut (L := L) (lev := lv) (lvj (jx sm)) (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp]; exact le_rfl)
    (fun g u hg => by obtain ⟨i, hi, rfl⟩ := owe_pos hg; rw [lv_pcell]; exact h i hi)

/-! ## The rules -/

/-- Every cell's invariant, under the names the launch allocated, and its round reached. -/
def Inv (K : Dev nD × Fin 10 → ℕ) : sProp 𝕄 :=
  bigSep Finset.univ fun ck : Dev nD × Fin 10 => iprop(cellInv ER (Rd X W) (K ck) (kcell ck) ∗ reached ER (kcell ck) 0)
instance Inv_persistent (K : Dev nD × Fin 10 → ℕ) : BI.Persistent (Inv X W K) := by unfold Inv; infer_instance
theorem inv_at (K : Dev nD × Fin 10 → ℕ) (ck : Dev nD × Fin 10) :
    Inv X W K ⊢ iprop(cellInv ER (Rd X W) (K ck) (kcell ck) ∗ reached ER (kcell ck) 0) := by
  unfold Inv; exact bigSep_elim (Finset.mem_univ ck)

/-- Device `c` owes what is left after `n` payments. -/
def OW (c : Dev nD) (n : ℕ) : sProp 𝕄 := iprop(∃ Ws : Waits sig Unit, owes (c : Thread nD τ) (owe c n) Ws)
/-- Device `c` has taken `m` units off cell `j`, with the payloads of some of its duties. -/
def Acc (c : Dev nD) (j : Fin 10) (m : ℕ) : sProp 𝕄 :=
  iprop(∃ S : Finset (Fin 12), ⌜S ⊆ dts j⌝ ∗ atPos ER (kcell (c, j)) 0 S m ∗ bigSep S (fun d => pay X W c j.val d.val))

omit [FloatOps F] in
theorem sdiff_join {ι : Type} [DecidableEq ι] {s t : Finset ι} {Φ : ι → sProp 𝕄} (h : t ⊆ s) :
    iprop(bigSep t Φ ∗ bigSep (s \ t) Φ) ⊢ bigSep s Φ := by rw [bigSep_sdiff_split h]; exact .rfl
theorem acc_start (c : Dev nD) (j : Fin 10) : atPos ER (kcell (c, j)) 0 ∅ 0 ⊢ Acc X W c j 0 := by
  unfold Acc
  iintro H
  iexists (∅ : Finset (Fin 12))
  isplitr
  · ipureintro; exact Finset.empty_subset _
  isplitl [H]
  · iexact H
  · rw [bigSep_empty]; iempintro

section Rules
variable (K : Dev nD × Fin 10 → ℕ) (c : Dev nD) {α : Type} {Q : α → sProp (MT nD τ sig Unit (Elt F) ℕ UU ℕ)}

/-- A wait for part of a cell's round. -/
theorem wp_waitA (j : Fin 10) (n : ℕ) {sm : SemLoc sig} (hsm : csem j = sm) {k' m : ℕ} {w : TpuEff nD τ sig (Elt F) Λ₀ .tc PUnit} {k : PUnit → PR F α}
    (hw : ∀ K : PUnit → sProp 𝕄, wpE (defs₀ (F := F)) 𝒱₀ (c : Thread nD τ) none Set.univ w K = waitSpec (c : Thread nD τ) Set.univ sm k' K)
    (h : ∀ i : Fin 23, n ≤ i.val → lvj j.val < lvj (pj i).val) :
    iprop(Inv X W K ∗ levAts L lv ∗ cred (tallyAt (kcell (c, j)) () k') ∗ OW c n ∗ Acc X W c j m)
      ⊢ iprop(((OW c n ∗ Acc X W c j (m + k')) -∗ Wp c (k ⟨⟩) Q) -∗ Wp c (.op w k) Q) := by
  subst hsm
  unfold OW Acc
  iintro ⟨#HI, #Hlev, Hc, ⟨%Ws, HO⟩, ⟨%S, %hS, Hat, Hpay⟩⟩ Hk
  ihave HIc := (inv_at X W K (c, j)) $$ HI
  icases HIc with ⟨#HIc, -⟩
  iapply (Rounds.wp_wait 𝒱₀ ER (Rd X W) (c : Thread nD τ) none (κ := K (c, j)) hw (Set.mem_univ _) (cr := Finsupp.single () k') (O := owe c n) (W := Ws)
    {(csem j, ())} (R := 0) (m := m) (T := S) (by rw [Util.total_single]) (image_single_subset (csem j) () k')) $$ [Hc HO Hat]
  · isplitr; · iexact HIc
    isplitl [Hc]; · iexact Hc
    isplitl [HO]; · iexact HO
    isplitr; · iapply (mayWait c (csem j) n (by rw [jx_csem]; exact h)); iexact Hlev
    iexact Hat
  iintro %S' ⟨%hS', HO, Hat, Hpay'⟩
  iapply Hk
  isplitl [HO]
  · iexists _; iexact HO
  iexists S'
  isplitr
  · ipureintro; rw [← duties_eq X W c j]; exact hS'.2.1
  isplitl [Hat]
  · iexact Hat
  iapply (sdiff_join (Φ := fun d => pay X W c j.val d.val) hS'.1)
  isplitl [Hpay]
  · iexact Hpay
  rw [bigSep_congr (s := S' \ S) (fun d _ => (payload_eq X W c j d).symm)]
  iexact Hpay'

/-- A wait for the rest of a cell's round. -/
theorem wp_waitZ (j : Fin 10) (n : ℕ) {sm : SemLoc sig} (hsm : csem j = sm) {k' m : ℕ} {w : TpuEff nD τ sig (Elt F) Λ₀ .tc PUnit} {k : PUnit → PR F α}
    (hw : ∀ K : PUnit → sProp 𝕄, wpE (defs₀ (F := F)) 𝒱₀ (c : Thread nD τ) none Set.univ w K = waitSpec (c : Thread nD τ) Set.univ sm k' K)
    (h : ∀ i : Fin 23, n ≤ i.val → lvj j.val < lvj (pj i).val) (hk : m + k' = ∑ d ∈ dts j, amt j.val d.val) :
    iprop(Inv X W K ∗ levAts L lv ∗ cred (tallyAt (kcell (c, j)) () k') ∗ OW c n ∗ Acc X W c j m)
      ⊢ iprop(((OW c n ∗ atPos ER (kcell (c, j)) 1 ∅ 0 ∗ bigSep (dts j) (fun d => pay X W c j.val d.val)) -∗ Wp c (k ⟨⟩) Q) -∗ Wp c (.op w k) Q) := by
  subst hsm
  unfold OW Acc
  iintro ⟨#HI, #Hlev, Hc, ⟨%Ws, HO⟩, ⟨%S, %hS, Hat, Hpay⟩⟩ Hk
  ihave HIc := (inv_at X W K (c, j)) $$ HI
  icases HIc with ⟨#HIc, -⟩
  iapply (Rounds.wp_wait_rest_token 𝒱₀ ER (Rd X W) (c : Thread nD τ) none (κ := K (c, j)) hw (Set.mem_univ _) () (O := owe c n) (W := Ws)
    (R := 0) (m := m) (T := S) (by rw [expect_eq]; exact hk)) $$ [Hc HO Hat]
  · isplitr; · iexact HIc
    isplitl [Hc]; · iexact Hc
    isplitl [HO]; · iexact HO
    isplitr; · iapply (mayWait c (csem j) n (by rw [jx_csem]; exact h)); iexact Hlev
    iexact Hat
  iintro ⟨HO, Hat, -, Hpay'⟩
  iapply Hk
  isplitl [HO]
  · iexists _; iexact HO
  isplitl [Hat]
  · iexact Hat
  iapply (sdiff_join (Φ := fun d => pay X W c j.val d.val) hS)
  isplitl [Hpay]
  · iexact Hpay
  rw [duties_eq, bigSep_congr (s := dts j \ S) (fun d _ => (payload_eq X W c j d).symm)]
  iexact Hpay'

/-- Barrier payment `i`. -/
theorem wp_sig (i : Fin 23) (hi : i.val < 7) {n : Dev nD} (hn : n = tgt c i) {k : PR F α} :
    iprop(Inv X W K ∗ OW c i.val ∗ dutyTok ER (pcell c i) 0 (pd i) ∗ give (F := F) c i.val)
      ⊢ iprop((OW c (i.val + 1) -∗ Wp c k Q) -∗ Wp c (semSignalWord n barS 1#32 >>= fun _ => k) Q) := by
  subst hn
  have hj : pj i = 0 := by unfold pj; rw [if_pos hi]
  have hg : pcell c i = (((tgt c i : Dev nD) : Thread nD τ), .reg barS) := by unfold pcell; rw [hj]
  have hp : (Rd X W).payload (((tgt c i : Dev nD) : Thread nD τ), .reg barS) 0 (pd i) = give (F := F) c i.val := by
    refine (payload_eq X W (tgt c i) 0 (pd i)).trans ?_
    have hd : (pd i).val = i.val := by show (if i.val < 7 then i.val else _) % 12 = i.val; rw [if_pos hi]; omega
    have hb : barIx i.val = i := Fin.ext (show i.val % 23 = i.val by omega)
    show pay X W (tgt c i) 0 (pd i).val = _
    unfold pay
    rw [if_pos rfl, hd, hb, src_tgt]
  have ha : (Rd X W).amount (((tgt c i : Dev nD) : Thread nD τ), .reg barS) 0 (pd i) = 1 := (amount_eq X W (tgt c i) 0 (pd i)).trans (by unfold amt; exact if_pos rfl)
  have hd : pd i ∈ (Rd X W).duties (((tgt c i : Dev nD) : Thread nD τ), .reg barS) 0 := by
    rw [show (((tgt c i : Dev nD) : Thread nD τ), SemLoc.reg barS) = kcell (tgt c i, 0) from rfl, duties_eq, ← hj]; exact pd_mem i
  have ho : owe c i.val = owe c (i.val + 1) + tallyAt (((tgt c i : Dev nD) : Thread nD τ), .reg barS) () 1 := by
    rw [owe_step, hg]; unfold pam; rw [hj]; rfl
  simp only [semSignalWord, Prog.lift, Prog.bind_op, Prog.bind_ret, Prog.pure_eq_ret]
  unfold OW
  iintro ⟨#HI, ⟨%Ws, HO⟩, Ht, Hg⟩ Hk
  ihave HIc := (inv_at X W K (tgt c i, 0)) $$ HI
  icases HIc with ⟨#HIc, #Hr⟩
  rw [hg]
  iapply (Rounds.wp_signal 𝒱₀ ER (Rd X W) (c : Thread nD τ) none (dst := (tgt c i : Thread nD τ)) (κ := K (tgt c i, 0))
      (d := pd i) hd (ha.trans (by decide)) () (owe c (i.val + 1)) ho) $$ [HO Ht Hg]
  · isplitr; · iexact HIc
    isplitl [HO]; · iexact HO
    isplitl [Ht]; · iexact Ht
    isplitl [Hg]; · rw [hp]; iexact Hg
    iexact Hr
  iintro HO
  iapply Hk
  iexists Ws
  iexact HO

/-- The copy that is payment `i`, returned on duty `ds` of cell `js`. -/
theorem wp_snd (i : Fin 23) (js : Fin 10) (ds : Fin 12) {n : Dev nD} (hn : n = tgt c i)
    {s : Shape} {e : EltTy} {sp sp' : Space} {src : Memref sig .tc sp s e} {dst : Memref sig .tc sp' s e}
    {hsc : dst.view.ref.isScScratch = false} {hsrc : src.view.WordExact} {hdst : dst.view.WordExact} {ss sd : DmaSem sig}
    {hsem : DmaTarget.Typed sp (.dma sd) (.remote (n : Thread nD τ) dst (.dma ss) hsc)}
    (hss : csem js = .dma ss) (hsd : csem (pj i) = .dma sd)
    {k : PUnit → PR F α} {N : ℕ} (hds : ds ∈ dts js)
    (hN : dst.view.dmaCredit = N) (h1 : amt js.val ds.val = N) (h2 : pam i = N)
    {fs : Buf (Elt F) (src.view.loc (c : Thread nD τ))} {S G : sProp 𝕄}
    (hG : G ⊢ iprop(∃ fd : Buf (Elt F) (dst.view.loc (tgt c i : Thread nD τ)), dst.view.loc (tgt c i : Thread nD τ) ↦[dst.view.set]{fullShare} fd))
    (hS : S ⊢ (src.view.loc (c : Thread nD τ) ↦[src.view.set]{fullShare} fs))
    (hp1 : (src.view.loc (c : Thread nD τ) ↦[src.view.set]{fullShare} fs) ⊢ pay X W c js.val ds.val)
    (hp2 : ∀ fd : Buf (Elt F) (dst.view.loc (tgt c i : Thread nD τ)), (dst.view.loc (tgt c i : Thread nD τ) ↦[dst.view.set]{fullShare} (dst.view.write (Elt F) fd (src.view.read (Elt F) fs) Finset.univ)) ⊢ pay X W (tgt c i) (pj i).val (pd i).val) :
    iprop(Inv X W K ∗ OW c i.val ∗ (dutyTok ER (kcell (c, js)) 0 ds ∗ dutyTok ER (pcell c i) 0 (pd i)) ∗ S ∗ G)
      ⊢ iprop(((cred (tallyAt (kcell (c, js)) () N) ∗ OW c (i.val + 1)) -∗ Wp c (k ⟨⟩) Q)
        -∗ Wp c (.op (.enqueueDma src (.remote (n : Thread nD τ) dst (.dma ss) hsc) (.dma sd) hsrc hdst hsem) k) Q) := by
  subst hn
  have hcs : kcell (c, js) = ((c : Thread nD τ), .dma ss) := by rw [← hss]
  have hcd : pcell c i = ((tgt c i : Thread nD τ), .dma sd) := by unfold pcell; rw [← hsd]
  have a1 : (Rd X W).amount ((c : Thread nD τ), .dma ss) 0 ds = N := by rw [← hcs, amount_eq, h1]
  have a2 : (Rd X W).amount ((tgt c i : Thread nD τ), .dma sd) 0 (pd i) = N := by rw [← hcd]; unfold pcell; rw [amount_eq]; exact h2
  have d1 : ds ∈ (Rd X W).duties ((c : Thread nD τ), .dma ss) 0 := by rw [← hcs, duties_eq]; exact hds
  have d2 : pd i ∈ (Rd X W).duties ((tgt c i : Thread nD τ), .dma sd) 0 := by rw [← hcd]; unfold pcell; rw [duties_eq]; exact pd_mem i
  have p1 : (Rd X W).payload ((c : Thread nD τ), .dma ss) 0 ds = pay X W c js.val ds.val := by rw [← hcs, payload_eq]
  have p2 : (Rd X W).payload ((tgt c i : Thread nD τ), .dma sd) 0 (pd i) = pay X W (tgt c i) (pj i).val (pd i).val := by rw [← hcd]; unfold pcell; rw [payload_eq]
  have ho : owe c i.val = owe c (i.val + 1) + tallyAt ((tgt c i : Thread nD τ), .dma sd) () N := by rw [owe_step, hcd, h2]
  unfold OW
  iintro ⟨#HI, ⟨%Ws, HO⟩, ⟨Hts, Htd⟩, HS, HG⟩ Hk
  ihave HI1 := (inv_at X W K (c, js)) $$ HI
  icases HI1 with ⟨#HI1, #Hr1⟩
  ihave HI2 := (inv_at X W K (tgt c i, pj i)) $$ HI
  icases HI2 with ⟨#HI2, #Hr2⟩
  ihave HS := hS $$ HS
  ihave HG := hG $$ HG
  icases HG with ⟨%fd, HG⟩
  rw [show kcell (tgt c i, pj i) = ((tgt c i : Thread nD τ), .dma sd) from hcd, hcs, hcd]
  iapply (Rounds.wp_send_pointsTo 𝒱₀ ER (Rd X W) (c : Thread nD τ) none (κ₁ := K (c, js)) (κ₂ := K (tgt c i, pj i))
    (r₁ := 0) (r₂ := 0) (d₁ := ds) (d₂ := pd i) (fs := fs) (fd := fd) d1 d2 () () N hN a1 a2 (owe c (i.val + 1)) ho (W := Ws)
    (by rw [p1]; exact hp1) (by rw [p2]; exact hp2 fd)) $$ [HS HG HO Hts Htd]
  · isplitr; · iexact HI1
    isplitr; · iexact HI2
    isplitl [HS]; · iexact HS
    isplitl [HG]; · iexact HG
    isplitl [HO]; · iexact HO
    isplitl [Hts]; · iexact Hts
    isplitr; · iexact Hr1
    isplitl [Htd]; · iexact Htd
    iexact Hr2
  iintro ⟨Hc, HO⟩
  iapply Hk
  isplitl [Hc]
  · iexact Hc
  iexists Ws
  iexact HO
end Rules

end Cert.KernelIdeal.Hand

end
-- ==== Proof.ISend.lean ====
/-
# The copies and the waits

What each copy delivers, and the rules for the copies and waits of each phase.
-/
module

public import proofs.«01_k».proof.Proof.ISched

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-! ## Slices of rows, owned -/

section Own
variable {c : Dev nD} {cs : CoreSpace} {i : Fin (sig.nNear .tc cs)} {hκ : sig.names .tc cs i = true}
  {ρ : (sig.tyNear .tc cs i).Idx → ℕ} {T : Finset ℕ} {V : (sig.tyNear .tc cs i).Contents (Elt F)}
  {r : Rect (sig.tyNear .tc cs i).shape} {hr : ∀ a, r.stride a = 1}

omit [FloatOps F] in
theorem slice_own (hS : r.set = rows ρ T) :
    (((((Memref.whole ⟨cs, i, hκ⟩ : Memref sig .tc _ _ _).slice r hr).view.loc (c : Thread nD τ))
      ↦[((Memref.whole ⟨cs, i, hκ⟩ : Memref sig .tc _ _ _).slice r hr).view.set]{fullShare} V) : sProp 𝕄) = RB c ⟨cs, i, hκ⟩ ρ T V := by
  unfold RB
  rw [← hS, ← View.set_slice_whole ⟨cs, i, hκ⟩ r]
omit [FloatOps F] in
theorem slice_some (hS : r.set = rows ρ T) :
    RE (F := F) c ⟨cs, i, hκ⟩ ρ T ⊢ iprop(∃ fd : Buf (Elt F) (((Memref.whole ⟨cs, i, hκ⟩ : Memref sig .tc _ _ _).slice r hr).view.loc (c : Thread nD τ)), ((Memref.whole ⟨cs, i, hκ⟩ : Memref sig .tc _ _ _).slice r hr).view.loc (c : Thread nD τ)
      ↦[((Memref.whole ⟨cs, i, hκ⟩ : Memref sig .tc _ _ _).slice r hr).view.set]{fullShare} fd) := by
  unfold RE
  iintro ⟨%V, H⟩
  iexists V
  iapply (Entails.of_eq (slice_own hS).symm) $$ H

theorem slice_land (hS : r.set = rows ρ T) {w : r.shape.Idx → Elt F (sig.tyNear .tc cs i).elt} (hw : ∀ j, w j = V (r.idx j))
    (fd : Buf (Elt F) (((Memref.whole ⟨cs, i, hκ⟩ : Memref sig .tc _ _ _).slice r hr).view.loc (c : Thread nD τ))) :
    (((((Memref.whole ⟨cs, i, hκ⟩ : Memref sig .tc _ _ _).slice r hr).view.loc (c : Thread nD τ))
      ↦[((Memref.whole ⟨cs, i, hκ⟩ : Memref sig .tc _ _ _).slice r hr).view.set]{fullShare} (((Memref.whole ⟨cs, i, hκ⟩ : Memref sig .tc _ _ _).slice r hr).view.write (Elt F) fd w Finset.univ)) : sProp 𝕄)
      ⊢ RB c ⟨cs, i, hκ⟩ ρ T V := by
  refine (Entails.of_eq (slice_own (F := F) (c := c) (hr := hr) hS)).trans ?_
  refine RB_to fun x hx => ?_
  have hx' : x ∈ r.set := by rw [hS]; exact mem_rows.mpr hx
  obtain ⟨j, rfl⟩ := r.toLoadRect.exists_idx_of_mem hx'
  exact (View.write_emb_of_mem (Val := Elt F) (v := ((Memref.whole ⟨cs, i, hκ⟩ : Memref sig .tc _ _ _).slice r hr).view) fd w (Finset.mem_univ j)).trans (hw j)
end Own

/-! ## Payments by kind -/

set_option backward.proofsInPublic true in
/-- Copy `dd` of round `k` inside the square: its payment, and its duty on the sender's cell. -/
def sn (k : Fin 4) (dd : Fin 3) : Fin 23 := ⟨7 + 3 * k.val + dd.val, by omega⟩
set_option backward.proofsInPublic true in
def sd (k : Fin 4) (dd : Fin 3) : Fin 12 := ⟨3 * k.val + dd.val, by omega⟩
set_option backward.proofsInPublic true in
/-- The arrival cell of round `k`. -/
def c1 (k : Fin 4) : Fin 10 := ⟨2 + k.val, by omega⟩
set_option backward.proofsInPublic true in
/-- The copy to plane `k + 1` on. -/
def pn (k : Fin 3) : Fin 23 := ⟨19 + k.val, by omega⟩
set_option backward.proofsInPublic true in
def pk (k : Fin 3) : Fin 12 := ⟨k.val, by omega⟩

theorem sn_cell : ∀ k dd, pj (sn k dd) = c1 k := by decide
theorem sn_duty : ∀ k dd, (pd (sn k dd)).val = dd.val := by decide
theorem csem_c1 : ∀ k, csem (c1 k) = .dma (r1S k) := by decide
theorem sd_mem : ∀ k dd, sd k dd ∈ dts 1 := by decide
theorem pn_duty : ∀ k, (pd (pn k)).val = k.val := by decide
theorem pn_cell : ∀ k, pj (pn k) = 7 := by decide
theorem pk_mem : ∀ k, pk k ∈ dts 6 := by decide
theorem tgt_sn : ∀ (c : Dev nD) k (dd : Fin 3), tgt c (sn k dd) = sq c (dd.val + 1) := by decide +kernel
theorem tgt_pn : ∀ (c : Dev nD) (k : Fin 3), tgt c (pn k) = zp c (k.val + 1) := by decide +kernel
theorem sq_back1 : ∀ c : Dev nD, sq (sq c 1) 3 = c ∧ ql (sq c 1) = (ql c + 1 + 0) % 4 := by decide +kernel
theorem sq_back2 : ∀ c : Dev nD, sq (sq c 2) 2 = c ∧ ql (sq c 2) = (ql c + 1 + 1) % 4 := by decide +kernel
theorem sq_back3 : ∀ c : Dev nD, sq (sq c 3) 1 = c ∧ ql (sq c 3) = (ql c + 1 + 2) % 4 := by decide +kernel
theorem zp_back : ∀ (c : Dev nD) (k : Fin 3), zp (zp c (k.val + 1)) (3 - k.val) = c := by decide +kernel
theorem fl_fl : ∀ c : Dev nD, fl (fl c) = c := by decide +kernel

theorem pay_got (t : Dev nD) (k : Fin 4) (d : ℕ) : pay X W t (c1 k).val d = got1 X W t k.val d := by
  have hk := k.isLt
  show pay X W t (2 + k.val) d = _
  unfold pay
  rw [if_neg (by omega), if_neg (by omega), if_pos (by omega), Nat.add_sub_cancel_left]
theorem pay_sn (c : Dev nD) (k : Fin 4) (dd : Fin 3) : pay X W (tgt c (sn k dd)) (pj (sn k dd)).val (pd (sn k dd)).val = got1 X W (tgt c (sn k dd)) k.val dd.val := by
  rw [sn_cell, sn_duty, pay_got]
theorem pay_sd (c : Dev nD) (k : Fin 4) (dd : Fin 3) : pay X W c (1 : Fin 10).val (sd k dd).val = back1 (F := F) c (3 * k.val + dd.val) := rfl
theorem back1_s (c : Dev nD) (k : Fin 4) (dd : Fin 3) (h : dd ≠ 1) : back1 (F := F) c (3 * k.val + dd.val) = s1E c (seg (pr c ((ql c + 1 + dd.val) % 4) k.val) 2) := by
  have hd : dd.val ≠ 1 := fun e => h (Fin.ext e)
  have := dd.isLt
  unfold back1
  rw [if_neg (by omega), show (3 * k.val + dd.val) % 3 = dd.val by omega, show (3 * k.val + dd.val) / 3 = k.val by omega]
theorem back1_f (c : Dev nD) (k : Fin 4) : back1 (F := F) c (3 * k.val + (1 : Fin 3).val) = f1E c (seg (pr c ((ql c + 1 + 1) % 4) k.val) 2) := by
  unfold back1
  show (if (3 * k.val + 1) % 3 = 1 then _ else _) = _
  rw [if_pos (by omega), show (3 * k.val + (1 : Fin 3).val) % 3 = 1 from by show (3 * k.val + 1) % 3 = 1; omega, show (3 * k.val + (1 : Fin 3).val) / 3 = k.val from by show (3 * k.val + 1) / 3 = _; omega]

theorem amt_c1 (k : Fin 4) (d : ℕ) : amt (c1 k).val d = if d % 3 = 1 then N1f else N1 := by
  have hk := k.isLt
  show amt (2 + k.val) d = _
  unfold amt
  rw [if_neg (by omega), if_pos (by omega)]
theorem pam_sn (k : Fin 4) (dd : Fin 3) : pam (sn k dd) = if dd.val % 3 = 1 then N1f else N1 := by
  unfold pam
  rw [sn_duty, sn_cell, amt_c1]
theorem amt_sd (k : Fin 4) (dd : Fin 3) : amt (1 : Fin 10).val (sd k dd).val = if dd.val % 3 = 1 then N1f else N1 := by
  show (if (3 * k.val + dd.val) % 3 = 1 then N1f else N1) = _
  rw [Nat.mul_add_mod]

section Sends
variable (K : Dev nD × Fin 10 → ℕ) (c : Dev nD) {α : Type} {Q : α → sProp (MT nD τ sig Unit (Elt F) ℕ UU ℕ)} {Kp : PR F α}

/-- The two tokens of copy `dd` of round `k`. -/
def tok1 (c : Dev nD) (k : Fin 4) (dd : Fin 3) : sProp 𝕄 := iprop(dutyTok ER (kcell (c, 1)) 0 (sd k dd) ∗ dutyTok ER (pcell c (sn k dd)) 0 (pd (sn k dd)))
/-- The rows of its square mates that `c` writes in round `k`. -/
def peers1 (c : Dev nD) (k : Fin 4) : sProp 𝕄 := iprop(r1E (F := F) (sq c 1) (seg (16 + 2 * k.val) 2) ∗ g1E (sq c 2) (seg (2 * k.val) 2) ∗ r1E (sq c 3) (seg (2 * k.val) 2))
/-- The rows of its own that `c` sends in round `k`. -/
def sent1 (c : Dev nD) (k : Fin 4) : sProp 𝕄 :=
  iprop(s1B X W c (seg (pr c ((ql c + 1 + 0) % 4) k.val) 2) ∗ f1B X W c (seg (pr c ((ql c + 1 + 1) % 4) k.val) 2) ∗ s1B X W c (seg (pr c ((ql c + 1 + 2) % 4) k.val) 2))
/-- The claims on `c`'s own send cell for the three copies of a round. -/
def cred1 (c : Dev nD) : sProp 𝕄 := iprop(cred (tallyAt (kcell (c, 1)) () N1) ∗ cred (tallyAt (kcell (c, 1)) () N1f) ∗ cred (tallyAt (kcell (c, 1)) () N1))

/-- Copy 0 of round `k`: to the next device of the square. -/
theorem wp_hi {n : Dev nD} (hn : n = sq c 1) (k : Fin 4) :
    iprop(Inv X W K ∗ OW c (7 + 3 * k.val) ∗ tok1 c k 0 ∗ s1B X W c (seg (pr c ((ql c + 1 + 0) % 4) k.val) 2) ∗ r1E (F := F) (sq c 1) (seg (16 + 2 * k.val) 2))
      ⊢ iprop(((cred (tallyAt (kcell (c, 1)) () N1) ∗ OW c (7 + 3 * k.val + 1)) -∗ Wp c Kp Q)
        -∗ Wp c (.op (.enqueueDma (sSrc c 0 k) (.remote (Dev.tc n) (hiDst k) (.dma s1S)) (.dma (r1S k)) (xSrc c 0 k) (xHi k) ⟨⟨rfl, Or.inl rfl⟩, trivial⟩) fun _ => Kp) Q) := by
  have hs := rect_rows (n := 32) (l := 2) (off3_eq c 0 k) (k0_off3_inb c 0 k)
  have hd := rect_rows (n := 24) (l := 2) (a := 16 + 2 * k.val) (fun _ => rfl) (inbHi k)
  have hp1 : (((sSrc c 0 k).view.loc (c : Thread nD τ) ↦[(sSrc c 0 k).view.set]{fullShare} st (n := 32) (S1V X W c)) : sProp 𝕄) ⊢ pay X W c (1 : Fin 10).val (sd k 0).val := by
    rw [pay_sd, back1_s _ _ _ (by decide)]; exact (Entails.of_eq (slice_own hs)).trans RB_RE
  have hG : r1E (F := F) (sq c 1) (seg (16 + 2 * k.val) 2) ⊢ iprop(∃ fd : Buf (Elt F) ((hiDst k).view.loc (tgt c (sn k 0) : Thread nD τ)), (hiDst k).view.loc (tgt c (sn k 0) : Thread nD τ) ↦[(hiDst k).view.set]{fullShare} fd) := by
    rw [tgt_sn]; exact slice_some hd
  have hp2 : ∀ fd : Buf (Elt F) ((hiDst k).view.loc (tgt c (sn k 0) : Thread nD τ)), (((hiDst k).view.loc (tgt c (sn k 0) : Thread nD τ) ↦[(hiDst k).view.set]{fullShare} ((hiDst k).view.write (Elt F) fd ((sSrc c 0 k).view.read (Elt F) (st (n := 32) (S1V X W c))) Finset.univ)) : sProp 𝕄) ⊢ pay X W (tgt c (sn k 0)) (pj (sn k 0)).val (pd (sn k 0)).val := by
    rw [pay_sn, tgt_sn]
    intro fd
    refine slice_land (cs := .vmem) (i := cc0_scratch4.idx) (hκ := cc0_scratch4.names) (r := rHi k) (hr := fun _ => rfl) (T := seg (16 + 2 * k.val) 2) (ρ := ro (n := 24))
      (V := st (n := 24) (R1V X W (sq c 1))) (w := (sSrc c 0 k).view.read (Elt F) (st (n := 32) (S1V X W c))) hd (fun j => ?_) fd
    have hj : (j 0).val < 2 := (j 0).isLt
    refine (read_pair (n := 32) (l := 2) (off3_eq c 0 k) (k0_off3_inb c 0 k) (S1V X W c) j).trans ?_
    refine Eq.trans ?_ (read_pair (n := 24) (l := 2) (a := 16 + 2 * k.val) (fun _ => rfl) (inbHi k) (R1V X W (sq c 1)) j).symm
    have h := R1V_hi X W (sq c 1) k (j 0).val hj (j 1) (j 2)
    rw [(sq_back1 c).1, (sq_back1 c).2] at h
    exact h
  unfold tok1
  exact wp_snd (k := fun _ => Kp) (Q := Q) X W K c (sn k 0) 1 (sd k 0) (src := sSrc c 0 k) (dst := hiDst k) (hn.trans (tgt_sn c k 0).symm)
    (hss := rfl) (hsd := (congrArg csem (sn_cell k 0)).trans (csem_c1 k)) (sd_mem k 0) (N := N1) (credit_hi k) (amt_sd k 0) (pam_sn k 0) (fs := st (n := 32) (S1V X W c))
    hG (Entails.of_eq (slice_own hs).symm) hp1 hp2

/-- Copy 1 of round `k`: to the opposite device of the square. -/
theorem wp_g {n : Dev nD} (hn : n = sq c 2) (k : Fin 4) :
    iprop(Inv X W K ∗ OW c (7 + 3 * k.val + 1) ∗ tok1 c k 1 ∗ f1B X W c (seg (pr c ((ql c + 1 + 1) % 4) k.val) 2) ∗ g1E (F := F) (sq c 2) (seg (2 * k.val) 2))
      ⊢ iprop(((cred (tallyAt (kcell (c, 1)) () N1f) ∗ OW c (7 + 3 * k.val + 2)) -∗ Wp c Kp Q)
        -∗ Wp c (.op (.enqueueDma (fSrc c k) (.remote (Dev.tc n) (gDst k) (.dma s1S)) (.dma (r1S k)) (xfSrc c k) (xG k) ⟨⟨rfl, Or.inl rfl⟩, trivial⟩) fun _ => Kp) Q) := by
  have hs := rect_rows (n := 32) (l := 2) (off3_eq c 1 k) (k0_off3_inb c 1 k)
  have hd := rect_rows (n := 8) (l := 2) (a := 2 * k.val) (fun _ => rfl) (inbG k)
  have hp1 : (((fSrc c k).view.loc (c : Thread nD τ) ↦[(fSrc c k).view.set]{fullShare} st (n := 32) (F1V X W c)) : sProp 𝕄) ⊢ pay X W c (1 : Fin 10).val (sd k 1).val := by
    rw [pay_sd, back1_f]; exact (Entails.of_eq (slice_own hs)).trans RB_RE
  have hG : g1E (F := F) (sq c 2) (seg (2 * k.val) 2) ⊢ iprop(∃ fd : Buf (Elt F) ((gDst k).view.loc (tgt c (sn k 1) : Thread nD τ)), (gDst k).view.loc (tgt c (sn k 1) : Thread nD τ) ↦[(gDst k).view.set]{fullShare} fd) := by
    rw [tgt_sn]; exact slice_some hd
  have hp2 : ∀ fd : Buf (Elt F) ((gDst k).view.loc (tgt c (sn k 1) : Thread nD τ)), (((gDst k).view.loc (tgt c (sn k 1) : Thread nD τ) ↦[(gDst k).view.set]{fullShare} ((gDst k).view.write (Elt F) fd ((fSrc c k).view.read (Elt F) (st (n := 32) (F1V X W c))) Finset.univ)) : sProp 𝕄) ⊢ pay X W (tgt c (sn k 1)) (pj (sn k 1)).val (pd (sn k 1)).val := by
    rw [pay_sn, tgt_sn]
    intro fd
    refine slice_land (cs := .vmem) (i := cc0_scratch5.idx) (hκ := cc0_scratch5.names) (r := rG k) (hr := fun _ => rfl) (T := seg (2 * k.val) 2) (ρ := ro (n := 8))
      (V := st (n := 8) (G1V X W (sq c 2))) (w := (fSrc c k).view.read (Elt F) (st (n := 32) (F1V X W c))) hd (fun j => ?_) fd
    have hj : (j 0).val < 2 := (j 0).isLt
    refine (read_pair (n := 32) (l := 2) (off3_eq c 1 k) (k0_off3_inb c 1 k) (F1V X W c) j).trans ?_
    refine Eq.trans ?_ (read_pair (n := 8) (l := 2) (a := 2 * k.val) (fun _ => rfl) (inbG k) (G1V X W (sq c 2)) j).symm
    have h := G1V_mid X W (sq c 2) k (j 0).val hj (j 1) (j 2)
    rw [(sq_back2 c).1, (sq_back2 c).2] at h
    exact h
  unfold tok1
  exact wp_snd (k := fun _ => Kp) (Q := Q) X W K c (sn k 1) 1 (sd k 1) (src := fSrc c k) (dst := gDst k) (hn.trans (tgt_sn c k 1).symm)
    (hss := rfl) (hsd := (congrArg csem (sn_cell k 1)).trans (csem_c1 k)) (sd_mem k 1) (N := N1f) (credit_g k) (amt_sd k 1) (pam_sn k 1) (fs := st (n := 32) (F1V X W c))
    hG (Entails.of_eq (slice_own hs).symm) hp1 hp2

/-- Copy 2 of round `k`: to the third device on of the square. -/
theorem wp_lo {n : Dev nD} (hn : n = sq c 3) (k : Fin 4) :
    iprop(Inv X W K ∗ OW c (7 + 3 * k.val + 2) ∗ tok1 c k 2 ∗ s1B X W c (seg (pr c ((ql c + 1 + 2) % 4) k.val) 2) ∗ r1E (F := F) (sq c 3) (seg (2 * k.val) 2))
      ⊢ iprop(((cred (tallyAt (kcell (c, 1)) () N1) ∗ OW c (7 + 3 * k.val + 3)) -∗ Wp c Kp Q)
        -∗ Wp c (.op (.enqueueDma (sSrc c 2 k) (.remote (Dev.tc n) (loDst k) (.dma s1S)) (.dma (r1S k)) (xSrc c 2 k) (xLo k) ⟨⟨rfl, Or.inl rfl⟩, trivial⟩) fun _ => Kp) Q) := by
  have hs := rect_rows (n := 32) (l := 2) (off3_eq c 2 k) (k0_off3_inb c 2 k)
  have hd := rect_rows (n := 24) (l := 2) (a := 2 * k.val) (fun _ => rfl) (inbLo k)
  have hp1 : (((sSrc c 2 k).view.loc (c : Thread nD τ) ↦[(sSrc c 2 k).view.set]{fullShare} st (n := 32) (S1V X W c)) : sProp 𝕄) ⊢ pay X W c (1 : Fin 10).val (sd k 2).val := by
    rw [pay_sd, back1_s _ _ _ (by decide)]; exact (Entails.of_eq (slice_own hs)).trans RB_RE
  have hG : r1E (F := F) (sq c 3) (seg (2 * k.val) 2) ⊢ iprop(∃ fd : Buf (Elt F) ((loDst k).view.loc (tgt c (sn k 2) : Thread nD τ)), (loDst k).view.loc (tgt c (sn k 2) : Thread nD τ) ↦[(loDst k).view.set]{fullShare} fd) := by
    rw [tgt_sn]; exact slice_some hd
  have hp2 : ∀ fd : Buf (Elt F) ((loDst k).view.loc (tgt c (sn k 2) : Thread nD τ)), (((loDst k).view.loc (tgt c (sn k 2) : Thread nD τ) ↦[(loDst k).view.set]{fullShare} ((loDst k).view.write (Elt F) fd ((sSrc c 2 k).view.read (Elt F) (st (n := 32) (S1V X W c))) Finset.univ)) : sProp 𝕄) ⊢ pay X W (tgt c (sn k 2)) (pj (sn k 2)).val (pd (sn k 2)).val := by
    rw [pay_sn, tgt_sn]
    intro fd
    refine slice_land (cs := .vmem) (i := cc0_scratch4.idx) (hκ := cc0_scratch4.names) (r := rLo k) (hr := fun _ => rfl) (T := seg (2 * k.val) 2) (ρ := ro (n := 24))
      (V := st (n := 24) (R1V X W (sq c 3))) (w := (sSrc c 2 k).view.read (Elt F) (st (n := 32) (S1V X W c))) hd (fun j => ?_) fd
    have hj : (j 0).val < 2 := (j 0).isLt
    refine (read_pair (n := 32) (l := 2) (off3_eq c 2 k) (k0_off3_inb c 2 k) (S1V X W c) j).trans ?_
    refine Eq.trans ?_ (read_pair (n := 24) (l := 2) (a := 2 * k.val) (fun _ => rfl) (inbLo k) (R1V X W (sq c 3)) j).symm
    have h := R1V_lo X W (sq c 3) k (j 0).val hj (j 1) (j 2)
    rw [(sq_back3 c).1, (sq_back3 c).2] at h
    exact h
  unfold tok1
  exact wp_snd (k := fun _ => Kp) (Q := Q) X W K c (sn k 2) 1 (sd k 2) (src := sSrc c 2 k) (dst := loDst k) (hn.trans (tgt_sn c k 2).symm)
    (hss := rfl) (hsd := (congrArg csem (sn_cell k 2)).trans (csem_c1 k)) (sd_mem k 2) (N := N1) (credit_lo k) (amt_sd k 2) (pam_sn k 2) (fs := st (n := 32) (S1V X W c))
    hG (Entails.of_eq (slice_own hs).symm) hp1 hp2

/-- The copy to plane `k + 1` on. -/
theorem wp_send2 {n : Dev nD} (k : Fin 3) (hn : n = zp c (k.val + 1)) :
    iprop(Inv X W K ∗ OW c (19 + k.val) ∗ (dutyTok ER (kcell (c, 6)) 0 (pk k) ∗ dutyTok ER (pcell c (pn k)) 0 (pd (pn k))) ∗ s2B X W c (seg (2 * k.val) 2) ∗ r2E (F := F) (zp c (k.val + 1)) (seg (4 - 2 * k.val) 2))
      ⊢ iprop(((cred (tallyAt (kcell (c, 6)) () N2) ∗ OW c (19 + k.val + 1)) -∗ Wp c Kp Q) -∗ Wp c (send2 n k >>= fun _ => Kp) Q) := by
  unfold send2
  simp only [Prog.lift, Prog.bind_op, Prog.bind_ret, Prog.pure_eq_ret]
  have hs := rect_rows (n := 6) (l := 2) (a := 2 * k.val) (fun _ => rfl) (inbS2 k)
  have hd := rect_rows (n := 6) (l := 2) (a := 4 - 2 * k.val) (fun _ => rfl) (inbR2 k)
  have hp1 : (((s2Src k).view.loc (c : Thread nD τ) ↦[(s2Src k).view.set]{fullShare} st (n := 6) (S2V X W c)) : sProp 𝕄) ⊢ pay X W c (6 : Fin 10).val (pk k).val :=
    (Entails.of_eq (slice_own hs)).trans RB_RE
  have hG : r2E (F := F) (zp c (k.val + 1)) (seg (4 - 2 * k.val) 2) ⊢ iprop(∃ fd : Buf (Elt F) ((r2Dst k).view.loc (tgt c (pn k) : Thread nD τ)), (r2Dst k).view.loc (tgt c (pn k) : Thread nD τ) ↦[(r2Dst k).view.set]{fullShare} fd) := by
    rw [tgt_pn]; exact slice_some hd
  have hp2 : ∀ fd : Buf (Elt F) ((r2Dst k).view.loc (tgt c (pn k) : Thread nD τ)), (((r2Dst k).view.loc (tgt c (pn k) : Thread nD τ) ↦[(r2Dst k).view.set]{fullShare} ((r2Dst k).view.write (Elt F) fd ((s2Src k).view.read (Elt F) (st (n := 6) (S2V X W c))) Finset.univ)) : sProp 𝕄) ⊢ pay X W (tgt c (pn k)) (pj (pn k)).val (pd (pn k)).val := by
    rw [pn_cell, pn_duty, show pay X W (tgt c (pn k)) (7 : Fin 10).val k.val = r2B X W (tgt c (pn k)) (seg (4 - 2 * k.val) 2) from rfl, tgt_pn]
    intro fd
    refine slice_land (cs := .vmem) (i := cc0_scratch7.idx) (hκ := cc0_scratch7.names) (r := rR2 k) (hr := fun _ => rfl) (T := seg (4 - 2 * k.val) 2) (ρ := ro (n := 6))
      (V := st (n := 6) (R2V X W (zp c (k.val + 1)))) (w := (s2Src k).view.read (Elt F) (st (n := 6) (S2V X W c))) hd (fun j => ?_) fd
    have hj : (j 0).val < 2 := (j 0).isLt
    refine (read_pair (n := 6) (l := 2) (a := 2 * k.val) (fun _ => rfl) (inbS2 k) (S2V X W c) j).trans ?_
    refine Eq.trans ?_ (read_pair (n := 6) (l := 2) (a := 4 - 2 * k.val) (fun _ => rfl) (inbR2 k) (R2V X W (zp c (k.val + 1))) j).symm
    have h := R2V_k X W (zp c (k.val + 1)) k (j 0).val hj (j 1) (j 2)
    rw [zp_back c k] at h
    exact h
  exact wp_snd (k := fun _ => Kp) (Q := Q) X W K c (pn k) 6 (pk k) (src := s2Src k) (dst := r2Dst k) (hn.trans (tgt_pn c k).symm)
    (hss := rfl) (hsd := (congrArg csem (pn_cell k)).trans rfl) (pk_mem k) (N := N2) (credit_r2 k) rfl (by unfold pam; rw [pn_cell]; rfl) (fs := st (n := 6) (S2V X W c))
    hG (Entails.of_eq (slice_own hs).symm) hp1 hp2

/-- The copy to the other square. -/
theorem wp_send3 {n : Dev nD} (hn : n = fl c) :
    iprop(Inv X W K ∗ OW c 22 ∗ (dutyTok ER (kcell (c, 8)) 0 0 ∗ dutyTok ER (pcell c 22) 0 (pd 22)) ∗ WB c cc0_scratch8 (S3V X W c) ∗ WE (F := F) (fl c) cc0_scratch9)
      ⊢ iprop(((cred (tallyAt (kcell (c, 8)) () N3) ∗ OW c 23) -∗ Wp c Kp Q) -∗ Wp c (send3 n >>= fun _ => Kp) Q) := by
  unfold send3
  simp only [Prog.lift, Prog.bind_op, Prog.bind_ret, Prog.pure_eq_ret]
  have ht : tgt c 22 = fl c := rfl
  have hS : WB c cc0_scratch8 (S3V X W c) ⊢ ((s3M.view.loc (c : Thread nD τ) ↦[s3M.view.set]{fullShare} S3V X W c) : sProp 𝕄) := by
    rw [WB_eq]; exact Entails.of_eq (by rw [View.set_whole])
  have hS' : ((s3M.view.loc (c : Thread nD τ) ↦[s3M.view.set]{fullShare} S3V X W c) : sProp 𝕄) ⊢ WB c cc0_scratch8 (S3V X W c) := by
    rw [WB_eq]; exact Entails.of_eq (by rw [View.set_whole])
  have hD : ∀ V : Buf (Elt F) (r3M.view.loc (tgt c 22 : Thread nD τ)), WB (tgt c 22) cc0_scratch9 V = ((r3M.view.loc (tgt c 22 : Thread nD τ) ↦[r3M.view.set]{fullShare} V) : sProp 𝕄) := by
    intro V; rw [WB_eq, View.set_whole]
  have hG : WE (F := F) (fl c) cc0_scratch9 ⊢ iprop(∃ fd : Buf (Elt F) (r3M.view.loc (tgt c 22 : Thread nD τ)), r3M.view.loc (tgt c 22 : Thread nD τ) ↦[r3M.view.set]{fullShare} fd) := by
    rw [← ht]
    unfold WE RE
    iintro ⟨%V, H⟩
    iexists V
    iapply (Entails.of_eq (hD V)) $$ H
  have hp2 : ∀ fd : Buf (Elt F) (r3M.view.loc (tgt c 22 : Thread nD τ)), ((r3M.view.loc (tgt c 22 : Thread nD τ) ↦[r3M.view.set]{fullShare} (r3M.view.write (Elt F) fd (s3M.view.read (Elt F) (S3V X W c)) Finset.univ)) : sProp 𝕄) ⊢ pay X W (tgt c 22) (pj 22).val (pd 22).val := by
    intro fd
    rw [show pay X W (tgt c 22) (pj 22).val (pd 22).val = WB (tgt c 22) cc0_scratch9 (R3V X W (tgt c 22)) from rfl, hD]
    refine Entails.of_eq (congrArg _ ?_)
    unfold R3V
    rw [ht, fl_fl]
    exact View.write_whole_univ _ _ _
  exact wp_snd (k := fun _ => Kp) (Q := Q) X W K c 22 8 0 (src := s3M) (dst := r3M) (hn.trans ht.symm)
    (hss := rfl) (hsd := rfl) (by decide) (N := N3) rfl rfl rfl (fs := S3V X W c)
    hG hS (hS'.trans RB_RE) hp2

/-- The three copies of round `k`. -/
theorem wp_send1 {n1 n2 n3 : Dev nD} (h1 : n1 = sq c 1) (h2 : n2 = sq c 2) (h3 : n3 = sq c 3) (k : Fin 4) :
    iprop(Inv X W K ∗ OW c (7 + 3 * k.val) ∗ (tok1 c k 0 ∗ tok1 c k 1 ∗ tok1 c k 2) ∗ sent1 X W c k ∗ peers1 (F := F) c k)
      ⊢ iprop(((cred1 c ∗ OW c (7 + 3 * k.val + 3)) -∗ Wp c Kp Q) -∗ Wp c (send1 c n1 n2 n3 k >>= fun _ => Kp) Q) := by
  unfold send1 sent1 peers1 cred1
  simp only [Prog.lift, Prog.bind_op, Prog.bind_ret, Prog.pure_eq_ret]
  iintro ⟨#HI, HO, ⟨Ht0, Ht1, Ht2⟩, ⟨Hv0, Hv1, Hv2⟩, ⟨Hp0, Hp1, Hp2⟩⟩ Hk
  iapply (wp_hi X W K c h1 k) $$ [HO Ht0 Hv0 Hp0]
  · isplitr; · iexact HI
    isplitl [HO]; · iexact HO
    isplitl [Ht0]; · iexact Ht0
    isplitl [Hv0]; · iexact Hv0
    iexact Hp0
  iintro ⟨Hc0, HO⟩
  iapply (wp_g X W K c h2 k) $$ [HO Ht1 Hv1 Hp1]
  · isplitr; · iexact HI
    isplitl [HO]; · iexact HO
    isplitl [Ht1]; · iexact Ht1
    isplitl [Hv1]; · iexact Hv1
    iexact Hp1
  iintro ⟨Hc1, HO⟩
  iapply (wp_lo X W K c h3 k) $$ [HO Ht2 Hv2 Hp2]
  · isplitr; · iexact HI
    isplitl [HO]; · iexact HO
    isplitl [Ht2]; · iexact Ht2
    isplitl [Hv2]; · iexact Hv2
    iexact Hp2
  iintro ⟨Hc2, HO⟩
  iapply Hk
  isplitl [Hc0 Hc1 Hc2]
  · isplitl [Hc0]; · iexact Hc0
    isplitl [Hc1]; · iexact Hc1
    iexact Hc2
  iexact HO
end Sends

end Cert.KernelIdeal.Hand

end
-- ==== Proof.IWait.lean ====
/-
# The waits of each phase
-/
module

public import proofs.«01_k».proof.Proof.ISend

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

theorem dts_bar : dts 0 = {0, 1, 2, 3, 4, 5, 6} := by decide
theorem dts_c1 : ∀ k, dts (c1 k) = {0, 1, 2} := by decide
theorem dts_s1 : dts 1 = {0, 1, 2, 3, 4, 5, 6, 7, 8, 9, 10, 11} := by decide
theorem dts_s2 : dts 6 = {0, 1, 2} := by decide
theorem dts_r2 : dts 7 = {0, 1, 2} := by decide
theorem dts_s3 : dts 8 = {0} := by decide
theorem dts_r3 : dts 9 = {0} := by decide

theorem above_bar : ∀ i : Fin 23, 7 ≤ i.val → lvj (0 : Fin 10).val < lvj (pj i).val := by decide
theorem above_c1 : ∀ (k : Fin 4) (i : Fin 23), 19 ≤ i.val → lvj (c1 k).val < lvj (pj i).val := by decide
theorem above_r2 : ∀ i : Fin 23, 22 ≤ i.val → lvj (7 : Fin 10).val < lvj (pj i).val := by decide
theorem above_end (j : Fin 10) (i : Fin 23) (h : 23 ≤ i.val) : lvj j.val < lvj (pj i).val := absurd h (by omega)

section Waits
variable (K : Dev nD × Fin 10 → ℕ) (c : Dev nD) {α : Type} {Q : α → sProp (MT nD τ sig Unit (Elt F) ℕ UU ℕ)} {Kp : PR F α}

/-- A cell whose round is over. -/
abbrev done (c : Dev nD) (j : Fin 10) : sProp 𝕄 := atPos ER (kcell (c, j)) 1 ∅ 0

/-- A wait on a copy for part of a cell's round, and for the rest of it. -/
theorem wp_dmaA (j : Fin 10) (n : ℕ) {sem : DmaSem sig} (hsm : csem j = .dma sem) {N m : ℕ}
    {sp sp' : Space} {s s' : Shape} {e e' : EltTy} {src : Memref sig .tc sp' s' e'} {dst : Memref sig .tc sp s e} {hsrc : src.view.WordExact} {hdst : dst.view.WordExact}
    (hN : dst.view.dmaCredit = N) (h : ∀ i : Fin 23, n ≤ i.val → lvj j.val < lvj (pj i).val) :
    iprop(Inv X W K ∗ levAts L lv ∗ cred (tallyAt (kcell (c, j)) () N) ∗ OW c n ∗ Acc X W c j m)
      ⊢ iprop(((OW c n ∗ Acc X W c j (m + N)) -∗ Wp c Kp Q) -∗ Wp c (.op (.waitDma2 sem src dst hsrc hdst) fun _ => Kp) Q) := by
  subst hN
  exact wp_waitA X W K c j n hsm (k := fun _ => Kp) (wpE_waitDma2_eq 𝒱₀ (c : Thread nD τ) none Set.univ) h
theorem wp_dmaZ (j : Fin 10) (n : ℕ) {sem : DmaSem sig} (hsm : csem j = .dma sem) {N m : ℕ}
    {sp sp' : Space} {s s' : Shape} {e e' : EltTy} {src : Memref sig .tc sp' s' e'} {dst : Memref sig .tc sp s e} {hsrc : src.view.WordExact} {hdst : dst.view.WordExact}
    (hN : dst.view.dmaCredit = N) (h : ∀ i : Fin 23, n ≤ i.val → lvj j.val < lvj (pj i).val) (hk : m + N = ∑ d ∈ dts j, amt j.val d.val) :
    iprop(Inv X W K ∗ levAts L lv ∗ cred (tallyAt (kcell (c, j)) () N) ∗ OW c n ∗ Acc X W c j m)
      ⊢ iprop(((OW c n ∗ done c j ∗ bigSep (dts j) (fun d => pay X W c j.val d.val)) -∗ Wp c Kp Q) -∗ Wp c (.op (.waitDma2 sem src dst hsrc hdst) fun _ => Kp) Q) := by
  subst hN
  exact wp_waitZ X W K c j n hsm (k := fun _ => Kp) (wpE_waitDma2_eq 𝒱₀ (c : Thread nD τ) none Set.univ) h hk

/-- What the barrier hands `c`: the rows of the other devices that `c` will write. -/
def gave (c : Dev nD) : sProp 𝕄 :=
  iprop(r1E (F := F) (sq c 3) (seg 0 8) ∗ g1E (sq c 2) (seg 0 8) ∗ r1E (sq c 1) (seg 16 8) ∗ r2E (zp c 3) (seg 0 2) ∗ r2E (zp c 2) (seg 2 2) ∗ r2E (zp c 1) (seg 4 2) ∗ WE (fl c) cc0_scratch9)

theorem gave_of : bigSep (dts 0) (fun d => pay X W c (0 : Fin 10).val d.val) ⊢ gave (F := F) c := by
  rw [bigSep_eq_bigSepL_of_eq [0, 1, 2, 3, 4, 5, 6] (by decide) (by decide)]
  simp only [bigSepL_cons_cons, bigSepL_singleton]
  exact .rfl

theorem wp_bar :
    iprop(Inv X W K ∗ levAts L lv ∗ cred (tallyAt (kcell (c, 0)) () 7) ∗ OW c 7 ∗ atPos ER (kcell (c, 0)) 0 ∅ 0)
      ⊢ iprop(((OW c 7 ∗ done c 0 ∗ gave (F := F) c) -∗ Wp c Kp Q) -∗ Wp c (semWaitWord barS 7#32 >>= fun _ => Kp) Q) := by
  simp only [semWaitWord, Prog.lift, Prog.bind_op, Prog.bind_ret, Prog.pure_eq_ret]
  iintro ⟨#HI, #Hl, Hc, HO, Hat⟩ Hk
  ihave Hat := (acc_start X W c 0) $$ Hat
  iapply (wp_waitZ X W K c 0 7 (sm := .reg barS) rfl (k' := 7) (m := 0) (k := fun _ => Kp) (wpE_semWait_eq 𝒱₀ (c : Thread nD τ) none Set.univ) above_bar (by rw [dts_bar]; decide)) $$ [Hc HO Hat]
  · isplitr; · iexact HI
    isplitr; · iexact Hl
    isplitl [Hc]; · iexact Hc
    isplitl [HO]; · iexact HO
    iexact Hat
  iintro ⟨HO, Hat, Hp⟩
  iapply Hk
  isplitl [HO]; · iexact HO
  isplitl [Hat]; · iexact Hat
  iapply (gave_of X W c) $$ Hp

/-- The claims on an arrival cell inside the square. -/
def credR (c : Dev nD) (k : Fin 4) : sProp 𝕄 := iprop(cred (tallyAt (kcell (c, c1 k)) () N1) ∗ cred (tallyAt (kcell (c, c1 k)) () N1f) ∗ cred (tallyAt (kcell (c, c1 k)) () N1))
/-- What arrived in round `k`. -/
def arr1 (c : Dev nD) (k : Fin 4) : sProp 𝕄 := iprop(r1B X W c (seg (16 + 2 * k.val) 2) ∗ g1B X W c (seg (2 * k.val) 2) ∗ r1B X W c (seg (2 * k.val) 2))

theorem arr1_of (k : Fin 4) : bigSep (dts (c1 k)) (fun d => pay X W c (c1 k).val d.val) ⊢ arr1 X W c k := by
  rw [bigSep_eq_bigSepL_of_eq [0, 1, 2] (dts_c1 k) (by decide)]
  simp only [bigSepL_cons_cons, bigSepL_singleton, pay_got]
  exact .rfl

theorem sum_c1 (k : Fin 4) : 0 + N1 + N1f + N1 = ∑ d ∈ dts (c1 k), amt (c1 k).val d.val := by
  rw [dts_c1, Finset.sum_insert (by decide), Finset.sum_insert (by decide), Finset.sum_singleton, amt_c1, amt_c1, amt_c1]
  show 0 + N1 + N1f + N1 = N1 + (N1f + N1)
  omega

theorem wp_wait1 (k : Fin 4) (n : ℕ) (hn : 19 ≤ n) :
    iprop(Inv X W K ∗ levAts L lv ∗ credR c k ∗ OW c n ∗ atPos ER (kcell (c, c1 k)) 0 ∅ 0)
      ⊢ iprop(((OW c n ∗ done c (c1 k) ∗ arr1 X W c k) -∗ Wp c Kp Q) -∗ Wp c (wait1 c k >>= fun _ => Kp) Q) := by
  have ha : ∀ i : Fin 23, n ≤ i.val → lvj (c1 k).val < lvj (pj i).val := fun i hi => above_c1 k i (hn.trans hi)
  unfold wait1 credR
  simp only [Prog.lift, Prog.bind_op, Prog.bind_ret, Prog.pure_eq_ret]
  iintro ⟨#HI, #Hl, ⟨Hc0, Hc1, Hc2⟩, HO, Hat⟩ Hk
  ihave Hat := (acc_start X W c (c1 k)) $$ Hat
  iapply (wp_dmaA X W K c (c1 k) n (csem_c1 k) (N := N1) (m := 0) (credit_hi k) ha) $$ [Hc0 HO Hat]
  · isplitr; · iexact HI
    isplitr; · iexact Hl
    isplitl [Hc0]; · iexact Hc0
    isplitl [HO]; · iexact HO
    iexact Hat
  iintro ⟨HO, Hat⟩
  iapply (wp_dmaA X W K c (c1 k) n (csem_c1 k) (N := N1f) (m := 0 + N1) (credit_g k) ha) $$ [Hc1 HO Hat]
  · isplitr; · iexact HI
    isplitr; · iexact Hl
    isplitl [Hc1]; · iexact Hc1
    isplitl [HO]; · iexact HO
    iexact Hat
  iintro ⟨HO, Hat⟩
  iapply (wp_dmaZ X W K c (c1 k) n (csem_c1 k) (N := N1) (m := 0 + N1 + N1f) (credit_lo k) ha (sum_c1 k)) $$ [Hc2 HO Hat]
  · isplitr; · iexact HI
    isplitr; · iexact Hl
    isplitl [Hc2]; · iexact Hc2
    isplitl [HO]; · iexact HO
    iexact Hat
  iintro ⟨HO, Hat, Hp⟩
  iapply Hk
  isplitl [HO]; · iexact HO
  isplitl [Hat]; · iexact Hat
  iapply (arr1_of X W c k) $$ Hp

/-- Three claims of one kind. -/
def cred3 (c : Dev nD) (j : Fin 10) (N : ℕ) : sProp 𝕄 := iprop(cred (tallyAt (kcell (c, j)) () N) ∗ cred (tallyAt (kcell (c, j)) () N) ∗ cred (tallyAt (kcell (c, j)) () N))

theorem wp_wait2 :
    iprop(Inv X W K ∗ levAts L lv ∗ cred3 c 7 N2 ∗ OW c 22 ∗ atPos ER (kcell (c, 7)) 0 ∅ 0)
      ⊢ iprop(((OW c 22 ∗ done c 7 ∗ r2B X W c (seg 4 2) ∗ r2B X W c (seg 2 2) ∗ r2B X W c (seg 0 2)) -∗ Wp c Kp Q) -∗ Wp c (wait2 >>= fun _ => Kp) Q) := by
  unfold wait2 cred3
  simp only [Prog.lift, Prog.bind_op, Prog.bind_ret, Prog.pure_eq_ret]
  iintro ⟨#HI, #Hl, ⟨Hc0, Hc1, Hc2⟩, HO, Hat⟩ Hk
  ihave Hat := (acc_start X W c 7) $$ Hat
  iapply (wp_dmaA X W K c 7 22 (sem := r2S) rfl (N := N2) (m := 0) (credit_r2 0) above_r2) $$ [Hc0 HO Hat]
  · isplitr; · iexact HI
    isplitr; · iexact Hl
    isplitl [Hc0]; · iexact Hc0
    isplitl [HO]; · iexact HO
    iexact Hat
  iintro ⟨HO, Hat⟩
  iapply (wp_dmaA X W K c 7 22 (sem := r2S) rfl (N := N2) (m := 0 + N2) (credit_r2 1) above_r2) $$ [Hc1 HO Hat]
  · isplitr; · iexact HI
    isplitr; · iexact Hl
    isplitl [Hc1]; · iexact Hc1
    isplitl [HO]; · iexact HO
    iexact Hat
  iintro ⟨HO, Hat⟩
  iapply (wp_dmaZ X W K c 7 22 (sem := r2S) rfl (N := N2) (m := 0 + N2 + N2) (credit_r2 2) above_r2
    (by rw [dts_r2, Finset.sum_insert (by decide), Finset.sum_insert (by decide), Finset.sum_singleton]; show 0 + N2 + N2 + N2 = N2 + (N2 + N2); omega)) $$ [Hc2 HO Hat]
  · isplitr; · iexact HI
    isplitr; · iexact Hl
    isplitl [Hc2]; · iexact Hc2
    isplitl [HO]; · iexact HO
    iexact Hat
  iintro ⟨HO, Hat, Hp⟩
  iapply Hk
  isplitl [HO]; · iexact HO
  isplitl [Hat]; · iexact Hat
  have e : bigSep (dts 7) (fun d => pay X W c (7 : Fin 10).val d.val) ⊢ iprop(r2B X W c (seg 4 2) ∗ r2B X W c (seg 2 2) ∗ r2B X W c (seg 0 2)) := by
    rw [bigSep_eq_bigSepL_of_eq [0, 1, 2] dts_r2 (by decide)]
    simp only [bigSepL_cons_cons, bigSepL_singleton]
    exact .rfl
  iapply e $$ Hp

theorem wp_wait3 :
    iprop(Inv X W K ∗ levAts L lv ∗ cred (tallyAt (kcell (c, 9)) () N3) ∗ OW c 23 ∗ atPos ER (kcell (c, 9)) 0 ∅ 0)
      ⊢ iprop(((OW c 23 ∗ done c 9 ∗ WB c cc0_scratch9 (R3V X W c)) -∗ Wp c Kp Q) -∗ Wp c (wait3 >>= fun _ => Kp) Q) := by
  unfold wait3
  simp only [Prog.lift, Prog.bind_op, Prog.bind_ret, Prog.pure_eq_ret]
  iintro ⟨#HI, #Hl, Hc, HO, Hat⟩ Hk
  ihave Hat := (acc_start X W c 9) $$ Hat
  iapply (wp_dmaZ X W K c 9 23 (sem := r3S) rfl (N := N3) (m := 0) rfl (above_end 9)
    (by rw [dts_r3, Finset.sum_singleton]; show 0 + N3 = N3; omega)) $$ [Hc HO Hat]
  · isplitr; · iexact HI
    isplitr; · iexact Hl
    isplitl [Hc]; · iexact Hc
    isplitl [HO]; · iexact HO
    iexact Hat
  iintro ⟨HO, Hat, Hp⟩
  iapply Hk
  isplitl [HO]; · iexact HO
  isplitl [Hat]; · iexact Hat
  have e : bigSep (dts 9) (fun d => pay X W c (9 : Fin 10).val d.val) ⊢ WB c cc0_scratch9 (R3V X W c) := by
    rw [dts_r3, bigSep_singleton]
    exact .rfl
  iapply e $$ Hp

/-- The units taken off the send cell of the square after `k` rounds of waits. -/
def ms (k : ℕ) : ℕ := k * (N1 + N1f + N1)

theorem wp_waitS1 (k : Fin 4) (m m' : ℕ) (h : m' = m + N1 + N1f + N1) :
    iprop(Inv X W K ∗ levAts L lv ∗ cred1 c ∗ OW c 23 ∗ Acc X W c 1 m)
      ⊢ iprop(((OW c 23 ∗ Acc X W c 1 m') -∗ Wp c Kp Q) -∗ Wp c (waitS1 c k >>= fun _ => Kp) Q) := by
  subst h
  unfold waitS1 cred1
  simp only [Prog.lift, Prog.bind_op, Prog.bind_ret, Prog.pure_eq_ret]
  iintro ⟨#HI, #Hl, ⟨Hc0, Hc1, Hc2⟩, HO, Hat⟩ Hk
  iapply (wp_dmaA X W K c 1 23 (sem := s1S) rfl (N := N1) (m := m) (credit_s c 0 k) (above_end 1)) $$ [Hc0 HO Hat]
  · isplitr; · iexact HI
    isplitr; · iexact Hl
    isplitl [Hc0]; · iexact Hc0
    isplitl [HO]; · iexact HO
    iexact Hat
  iintro ⟨HO, Hat⟩
  iapply (wp_dmaA X W K c 1 23 (sem := s1S) rfl (N := N1f) (m := m + N1) (credit_f c k) (above_end 1)) $$ [Hc1 HO Hat]
  · isplitr; · iexact HI
    isplitr; · iexact Hl
    isplitl [Hc1]; · iexact Hc1
    isplitl [HO]; · iexact HO
    iexact Hat
  iintro ⟨HO, Hat⟩
  iapply (wp_dmaA X W K c 1 23 (sem := s1S) rfl (N := N1) (m := m + N1 + N1f) (credit_s c 2 k) (above_end 1)) $$ [Hc2 HO Hat]
  · isplitr; · iexact HI
    isplitr; · iexact Hl
    isplitl [Hc2]; · iexact Hc2
    isplitl [HO]; · iexact HO
    iexact Hat
  iexact Hk

/-- What the waits of the square's sends return. -/
def back (c : Dev nD) (k : Fin 4) : sProp 𝕄 :=
  iprop(s1E (F := F) c (seg (pr c ((ql c + 1 + 0) % 4) k.val) 2) ∗ f1E c (seg (pr c ((ql c + 1 + 1) % 4) k.val) 2) ∗ s1E c (seg (pr c ((ql c + 1 + 2) % 4) k.val) 2))

omit [FloatOps F] in
theorem sep_12 (p : ℕ → sProp (MT nD τ sig Unit (Elt F) ℕ UU ℕ)) : iprop(p 0 ∗ p 1 ∗ p 2 ∗ p 3 ∗ p 4 ∗ p 5 ∗ p 6 ∗ p 7 ∗ p 8 ∗ p 9 ∗ p 10 ∗ p 11)
    ⊢ iprop((p 0 ∗ p 1 ∗ p 2) ∗ (p 3 ∗ p 4 ∗ p 5) ∗ (p 6 ∗ p 7 ∗ p 8) ∗ (p 9 ∗ p 10 ∗ p 11)) := by
  iintro ⟨H0, H1, H2, H3, H4, H5, H6, H7, H8, H9, H10, H11⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  iexact H11

theorem back_of : bigSep (dts 1) (fun d => pay X W c (1 : Fin 10).val d.val) ⊢ iprop(back (F := F) c 0 ∗ back c 1 ∗ back c 2 ∗ back c 3) := by
  rw [bigSep_eq_bigSepL_of_eq [0, 1, 2, 3, 4, 5, 6, 7, 8, 9, 10, 11] (by decide) (by decide)]
  simp only [bigSepL_cons_cons, bigSepL_singleton]
  exact sep_12 (fun d => pay X W c 1 d)

theorem sum_s1 : ms 3 + N1 + N1f + N1 = ∑ d ∈ dts 1, amt (1 : Fin 10).val d.val := by
  rw [dts_s1]
  repeat rw [Finset.sum_insert (by decide)]
  rw [Finset.sum_singleton]
  show 3 * (N1 + N1f + N1) + N1 + N1f + N1 = N1 + (N1f + (N1 + (N1 + (N1f + (N1 + (N1 + (N1f + (N1 + (N1 + (N1f + N1))))))))))
  omega

theorem wp_waitS1z :
    iprop(Inv X W K ∗ levAts L lv ∗ cred1 c ∗ OW c 23 ∗ Acc X W c 1 (ms 3))
      ⊢ iprop(((OW c 23 ∗ done c 1 ∗ back (F := F) c 0 ∗ back c 1 ∗ back c 2 ∗ back c 3) -∗ Wp c Kp Q) -∗ Wp c (waitS1 c 3 >>= fun _ => Kp) Q) := by
  unfold waitS1 cred1
  simp only [Prog.lift, Prog.bind_op, Prog.bind_ret, Prog.pure_eq_ret]
  iintro ⟨#HI, #Hl, ⟨Hc0, Hc1, Hc2⟩, HO, Hat⟩ Hk
  iapply (wp_dmaA X W K c 1 23 (sem := s1S) rfl (N := N1) (m := ms 3) (credit_s c 0 3) (above_end 1)) $$ [Hc0 HO Hat]
  · isplitr; · iexact HI
    isplitr; · iexact Hl
    isplitl [Hc0]; · iexact Hc0
    isplitl [HO]; · iexact HO
    iexact Hat
  iintro ⟨HO, Hat⟩
  iapply (wp_dmaA X W K c 1 23 (sem := s1S) rfl (N := N1f) (m := ms 3 + N1) (credit_f c 3) (above_end 1)) $$ [Hc1 HO Hat]
  · isplitr; · iexact HI
    isplitr; · iexact Hl
    isplitl [Hc1]; · iexact Hc1
    isplitl [HO]; · iexact HO
    iexact Hat
  iintro ⟨HO, Hat⟩
  iapply (wp_dmaZ X W K c 1 23 (sem := s1S) rfl (N := N1) (m := ms 3 + N1 + N1f) (credit_s c 2 3) (above_end 1) sum_s1) $$ [Hc2 HO Hat]
  · isplitr; · iexact HI
    isplitr; · iexact Hl
    isplitl [Hc2]; · iexact Hc2
    isplitl [HO]; · iexact HO
    iexact Hat
  iintro ⟨HO, Hat, Hp⟩
  iapply Hk
  isplitl [HO]; · iexact HO
  isplitl [Hat]; · iexact Hat
  iapply (back_of X W c) $$ Hp

theorem wp_waitS2 :
    iprop(Inv X W K ∗ levAts L lv ∗ cred3 c 6 N2 ∗ OW c 23 ∗ atPos ER (kcell (c, 6)) 0 ∅ 0)
      ⊢ iprop(((OW c 23 ∗ done c 6 ∗ s2E (F := F) c (seg 0 2) ∗ s2E c (seg 2 2) ∗ s2E c (seg 4 2)) -∗ Wp c Kp Q) -∗ Wp c (waitS2 >>= fun _ => Kp) Q) := by
  unfold waitS2 cred3
  simp only [Prog.lift, Prog.bind_op, Prog.bind_ret, Prog.pure_eq_ret]
  iintro ⟨#HI, #Hl, ⟨Hc0, Hc1, Hc2⟩, HO, Hat⟩ Hk
  ihave Hat := (acc_start X W c 6) $$ Hat
  iapply (wp_dmaA X W K c 6 23 (sem := s2S) rfl (N := N2) (m := 0) (credit_s2 0) (above_end 6)) $$ [Hc0 HO Hat]
  · isplitr; · iexact HI
    isplitr; · iexact Hl
    isplitl [Hc0]; · iexact Hc0
    isplitl [HO]; · iexact HO
    iexact Hat
  iintro ⟨HO, Hat⟩
  iapply (wp_dmaA X W K c 6 23 (sem := s2S) rfl (N := N2) (m := 0 + N2) (credit_s2 1) (above_end 6)) $$ [Hc1 HO Hat]
  · isplitr; · iexact HI
    isplitr; · iexact Hl
    isplitl [Hc1]; · iexact Hc1
    isplitl [HO]; · iexact HO
    iexact Hat
  iintro ⟨HO, Hat⟩
  iapply (wp_dmaZ X W K c 6 23 (sem := s2S) rfl (N := N2) (m := 0 + N2 + N2) (credit_s2 2) (above_end 6)
    (by rw [dts_s2, Finset.sum_insert (by decide), Finset.sum_insert (by decide), Finset.sum_singleton]; show 0 + N2 + N2 + N2 = N2 + (N2 + N2); omega)) $$ [Hc2 HO Hat]
  · isplitr; · iexact HI
    isplitr; · iexact Hl
    isplitl [Hc2]; · iexact Hc2
    isplitl [HO]; · iexact HO
    iexact Hat
  iintro ⟨HO, Hat, Hp⟩
  iapply Hk
  isplitl [HO]; · iexact HO
  isplitl [Hat]; · iexact Hat
  have e : bigSep (dts 6) (fun d => pay X W c (6 : Fin 10).val d.val) ⊢ iprop(s2E (F := F) c (seg 0 2) ∗ s2E c (seg 2 2) ∗ s2E c (seg 4 2)) := by
    rw [bigSep_eq_bigSepL_of_eq [0, 1, 2] dts_s2 (by decide)]
    simp only [bigSepL_cons_cons, bigSepL_singleton]
    exact .rfl
  iapply e $$ Hp

theorem wp_waitS3 :
    iprop(Inv X W K ∗ levAts L lv ∗ cred (tallyAt (kcell (c, 8)) () N3) ∗ OW c 23 ∗ atPos ER (kcell (c, 8)) 0 ∅ 0)
      ⊢ iprop(((OW c 23 ∗ done c 8 ∗ WE (F := F) c cc0_scratch8) -∗ Wp c Kp Q) -∗ Wp c (waitS3 >>= fun _ => Kp) Q) := by
  unfold waitS3
  simp only [Prog.lift, Prog.bind_op, Prog.bind_ret, Prog.pure_eq_ret]
  iintro ⟨#HI, #Hl, Hc, HO, Hat⟩ Hk
  ihave Hat := (acc_start X W c 8) $$ Hat
  iapply (wp_dmaZ X W K c 8 23 (sem := s3S) rfl (N := N3) (m := 0) credit_s3 (above_end 8)
    (by rw [dts_s3, Finset.sum_singleton]; show 0 + N3 = N3; omega)) $$ [Hc HO Hat]
  · isplitr; · iexact HI
    isplitr; · iexact Hl
    isplitl [Hc]; · iexact Hc
    isplitl [HO]; · iexact HO
    iexact Hat
  iintro ⟨HO, Hat, Hp⟩
  iapply Hk
  isplitl [HO]; · iexact HO
  isplitl [Hat]; · iexact Hat
  have e : bigSep (dts 8) (fun d => pay X W c (8 : Fin 10).val d.val) ⊢ WE (F := F) c cc0_scratch8 := by
    rw [dts_s3, bigSep_singleton]
    exact .rfl
  iapply e $$ Hp
end Waits

end Cert.KernelIdeal.Hand

end
-- ==== Proof.ISplit.lean ====
/-
# Buffers cut into the rows that travel together
-/
module

public import proofs.«01_k».proof.Proof.IWait

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

/-! ## One buffer -/

omit [FloatOps F] in
theorem sep_eq {P Q : sProp (MT nD τ sig Unit (Elt F) ℕ UU ℕ)} (h : P ⊢ Q) (h' : Q ⊢ P) : P = Q := equiv_iff.mp ⟨h, h'⟩

omit [FloatOps F] in
theorem sep_co (P Q : sProp (MT nD τ sig Unit (Elt F) ℕ UU ℕ)) : iprop(P ∗ Q) = iprop(Q ∗ P) :=
  sep_eq (by iintro ⟨H, H'⟩; isplitl [H']; · iexact H'
             iexact H) (by iintro ⟨H, H'⟩; isplitl [H']; · iexact H'
                           iexact H)
omit [FloatOps F] in
theorem sep_as (P Q R : sProp (MT nD τ sig Unit (Elt F) ℕ UU ℕ)) : iprop((P ∗ Q) ∗ R) = iprop(P ∗ Q ∗ R) :=
  sep_eq (by iintro ⟨⟨H, H'⟩, H''⟩; isplitl [H]; · iexact H
             isplitl [H']; · iexact H'
             iexact H'') (by iintro ⟨H, H', H''⟩; isplitl [H H']; · isplitl [H]; · iexact H
                                                                    iexact H'
                             iexact H'')
instance : Std.Commutative (α := sProp (MT nD τ sig Unit (Elt F) ℕ UU ℕ)) (fun P Q => iprop(P ∗ Q)) := ⟨sep_co⟩
instance : Std.Associative (α := sProp (MT nD τ sig Unit (Elt F) ℕ UU ℕ)) (fun P Q => iprop(P ∗ Q)) := ⟨sep_as⟩

theorem seg_add (a l l' : ℕ) : seg a (l + l') = seg a l ∪ seg (a + l) l' := by
  ext i; simp only [Finset.mem_union, Finset.mem_Ico]; omega
theorem seg_add_dis (a l l' : ℕ) : Disjoint (seg a l) (seg (a + l) l') := by
  rw [Finset.disjoint_left]; intro i; simp only [Finset.mem_Ico]; omega

section One
variable {c : Dev nD} {b : Ref sig .tc} {ρ : b.ty.Idx → ℕ}
omit [FloatOps F] in
theorem RE_add (a l l' : ℕ) : RE (F := F) c b ρ (seg a (l + l')) = iprop(RE c b ρ (seg a l) ∗ RE c b ρ (seg (a + l) l')) := by
  rw [seg_add]; exact sep_eq (RE_split (seg_add_dis a l l')) (RE_join (seg_add_dis a l l'))
omit [FloatOps F] in
/-- Eight rows as four pairs. -/
theorem RE_pairs (a : ℕ) : RE (F := F) c b ρ (seg a 8)
    = iprop(RE c b ρ (seg (a + 2 * 0) 2) ∗ RE c b ρ (seg (a + 2 * 1) 2) ∗ RE c b ρ (seg (a + 2 * 2) 2) ∗ RE c b ρ (seg (a + 2 * 3) 2)) := by
  rw [RE_add a 2 6, RE_add (a + 2) 2 4, RE_add (a + 2 + 2) 2 2]
  rfl
omit [FloatOps F] in
theorem RE_six (a : ℕ) : RE (F := F) c b ρ (seg a 6)
    = iprop(RE c b ρ (seg a 2) ∗ RE c b ρ (seg (a + 2) 2) ∗ RE c b ρ (seg (a + 4) 2)) := by
  rw [RE_add a 2 4, RE_add (a + 2) 2 2]
end One

omit [FloatOps F] in
/-- A buffer owned whole, as all of its rows. -/
theorem WE_rows {n : ℕ} (c : Dev nD) (b : Ref sig .tc) (ρ : b.ty.Idx → ℕ) (h : ∀ i, ρ i < n) : WE (F := F) c b = RE c b ρ (seg 0 n) := by
  unfold WE RE RB
  rw [rows_all, show rows ρ (seg 0 n) = Finset.univ by ext i; simp only [mem_rows, Finset.mem_Ico, Finset.mem_univ, iff_true]; have := h i; omega]
theorem ro_lt {n : ℕ} (i : (B3 n).Idx) : ro i < n := (i 0).isLt

omit [FloatOps F] in
/-- Four things taken from the `q`-th on. -/
theorem rot4 (Φ : ℕ → sProp (MT nD τ sig Unit (Elt F) ℕ UU ℕ)) (q : ℕ) :
    iprop(Φ 0 ∗ Φ 1 ∗ Φ 2 ∗ Φ 3) = iprop(Φ ((q + 0) % 4) ∗ Φ ((q + 1) % 4) ∗ Φ ((q + 2) % 4) ∗ Φ ((q + 3) % 4)) := by
  have h : q % 4 = 0 ∨ q % 4 = 1 ∨ q % 4 = 2 ∨ q % 4 = 3 := by omega
  rcases h with h | h | h | h
  · rw [show (q + 0) % 4 = 0 by omega, show (q + 1) % 4 = 1 by omega, show (q + 2) % 4 = 2 by omega, show (q + 3) % 4 = 3 by omega]
  · rw [show (q + 0) % 4 = 1 by omega, show (q + 1) % 4 = 2 by omega, show (q + 2) % 4 = 3 by omega, show (q + 3) % 4 = 0 by omega]; ac_rfl
  · rw [show (q + 0) % 4 = 2 by omega, show (q + 1) % 4 = 3 by omega, show (q + 2) % 4 = 0 by omega, show (q + 3) % 4 = 1 by omega]; ac_rfl
  · rw [show (q + 0) % 4 = 3 by omega, show (q + 1) % 4 = 0 by omega, show (q + 2) % 4 = 1 by omega, show (q + 3) % 4 = 2 by omega]; ac_rfl

omit [FloatOps F] in
theorem rot_zn (Φ : ℕ → sProp (MT nD τ sig Unit (Elt F) ℕ UU ℕ)) (c : Dev nD) :
    iprop(Φ 0 ∗ Φ 1 ∗ Φ 2 ∗ Φ 3) = iprop(Φ (zn c 0) ∗ Φ (zn c 1) ∗ Φ (zn c 2) ∗ Φ (zn c 3)) := rot4 Φ (zi c + 1)

/-! ## The kernel's buffers -/

section Bufs
variable (c : Dev nD)

/-- The accumulator, zone by zone in the order of the rounds. -/
theorem acc_cut : WE (F := F) c cc0_scratch0 = iprop(aE c (seg (2 * zn c 0) 2) ∗ aE c (seg (2 * zn c 1) 2) ∗ aE c (seg (2 * zn c 2) 2) ∗ aE c (seg (2 * zn c 3) 2)) := by
  rw [WE_rows (n := 8) c cc0_scratch0 (ro (n := 8)) ro_lt, RE_pairs]
  simp only [Nat.zero_add]
  exact rot_zn (fun z => aE (F := F) c (seg (2 * z) 2)) c

/-- Eight rows of a column, zone by zone. -/
theorem col_cut {b : Ref sig .tc} {ρ : b.ty.Idx → ℕ} (lc : ℕ) : RE (F := F) c b ρ (seg (lc * 8) 8)
    = iprop(RE c b ρ (seg (pr c lc 0) 2) ∗ RE c b ρ (seg (pr c lc 1) 2) ∗ RE c b ρ (seg (pr c lc 2) 2) ∗ RE c b ρ (seg (pr c lc 3) 2)) := by
  rw [RE_pairs]
  exact rot_zn (fun z => RE (F := F) c b ρ (seg (lc * 8 + 2 * z) 2)) c

/-- The two send buffers' rows of round `k`. -/
def colsE (k : Fin 4) : sProp 𝕄 := iprop(colE (F := F) c k 0 ∗ colE c k 1 ∗ colE c k 2 ∗ colE c k 3)
def colsB (k : Fin 4) : sProp 𝕄 := iprop(colB X W c k 0 ∗ colB X W c k 1 ∗ colB X W c k 2 ∗ colB X W c k 3)

theorem rows32 {b : Ref sig .tc} {ρ : b.ty.Idx → ℕ} (h : ∀ i, ρ i < 32) : WE (F := F) c b
    = iprop(RE c b ρ (seg (0 * 8) 8) ∗ RE c b ρ (seg (1 * 8) 8) ∗ RE c b ρ (seg (2 * 8) 8) ∗ RE c b ρ (seg (3 * 8) 8)) := by
  rw [WE_rows (n := 32) c b ρ h, RE_add 0 8 24, RE_add (0 + 8) 8 16, RE_add (0 + 8 + 8) 8 8]

theorem send_cut : iprop(WE (F := F) c cc0_scratch2 ∗ WE c cc0_scratch3) = iprop(colsE c 0 ∗ colsE c 1 ∗ colsE c 2 ∗ colsE c 3) := by
  rw [rows32 c (b := cc0_scratch2) (ρ := ro (n := 32)) ro_lt, rows32 c (b := cc0_scratch3) (ρ := ro (n := 32)) ro_lt]
  simp only [col_cut c]
  unfold colsE colE
  show _ = iprop(((s1E c (seg (pr c 0 0) 2) ∗ f1E c (seg (pr c 0 0) 2)) ∗ (s1E c (seg (pr c 1 0) 2) ∗ f1E c (seg (pr c 1 0) 2)) ∗ (s1E c (seg (pr c 2 0) 2) ∗ f1E c (seg (pr c 2 0) 2)) ∗ (s1E c (seg (pr c 3 0) 2) ∗ f1E c (seg (pr c 3 0) 2)))
    ∗ ((s1E c (seg (pr c 0 1) 2) ∗ f1E c (seg (pr c 0 1) 2)) ∗ (s1E c (seg (pr c 1 1) 2) ∗ f1E c (seg (pr c 1 1) 2)) ∗ (s1E c (seg (pr c 2 1) 2) ∗ f1E c (seg (pr c 2 1) 2)) ∗ (s1E c (seg (pr c 3 1) 2) ∗ f1E c (seg (pr c 3 1) 2)))
    ∗ ((s1E c (seg (pr c 0 2) 2) ∗ f1E c (seg (pr c 0 2) 2)) ∗ (s1E c (seg (pr c 1 2) 2) ∗ f1E c (seg (pr c 1 2) 2)) ∗ (s1E c (seg (pr c 2 2) 2) ∗ f1E c (seg (pr c 2 2) 2)) ∗ (s1E c (seg (pr c 3 2) 2) ∗ f1E c (seg (pr c 3 2) 2)))
    ∗ ((s1E c (seg (pr c 0 3) 2) ∗ f1E c (seg (pr c 0 3) 2)) ∗ (s1E c (seg (pr c 1 3) 2) ∗ f1E c (seg (pr c 1 3) 2)) ∗ (s1E c (seg (pr c 2 3) 2) ∗ f1E c (seg (pr c 2 3) 2)) ∗ (s1E c (seg (pr c 3 3) 2) ∗ f1E c (seg (pr c 3 3) 2))))
  simp only [s1E, f1E, r1E, g1E, r2E, Nat.reduceMul, Nat.reduceAdd, Nat.zero_add]
  ac_rfl

/-- What is left of the rows of a round once its three copies are under way. -/
def rest1 (k : Fin 4) : sProp 𝕄 :=
  iprop(s1E (F := F) c (seg (pr c ((ql c + 1 + 1) % 4) k.val) 2) ∗ s1E c (seg (pr c ((ql c + 1 + 3) % 4) k.val) 2)
    ∗ f1E c (seg (pr c ((ql c + 1 + 0) % 4) k.val) 2) ∗ f1E c (seg (pr c ((ql c + 1 + 2) % 4) k.val) 2) ∗ f1E c (seg (pr c ((ql c + 1 + 3) % 4) k.val) 2))

omit [FloatOps F] in
theorem pairs_rot (A B : ℕ → sProp (MT nD τ sig Unit (Elt F) ℕ UU ℕ)) (q : ℕ) :
    iprop((A 0 ∗ B 0) ∗ (A 1 ∗ B 1) ∗ (A 2 ∗ B 2) ∗ (A 3 ∗ B 3))
      = iprop((A ((q + 0) % 4) ∗ B ((q + 1) % 4) ∗ A ((q + 2) % 4)) ∗ (A ((q + 1) % 4) ∗ A ((q + 3) % 4) ∗ B ((q + 0) % 4) ∗ B ((q + 2) % 4) ∗ B ((q + 3) % 4))) := by
  have e : iprop((A 0 ∗ B 0) ∗ (A 1 ∗ B 1) ∗ (A 2 ∗ B 2) ∗ (A 3 ∗ B 3)) = iprop((A 0 ∗ A 1 ∗ A 2 ∗ A 3) ∗ (B 0 ∗ B 1 ∗ B 2 ∗ B 3)) := by ac_rfl
  rw [e, rot4 A q, rot4 B q]
  generalize (q + 0) % 4 = a0, (q + 1) % 4 = a1, (q + 2) % 4 = a2, (q + 3) % 4 = a3
  ac_rfl

theorem colsE_rot (k : Fin 4) : colsE (F := F) c k = iprop(back c k ∗ rest1 c k) := by
  unfold colsE colE back rest1
  exact pairs_rot (fun lc => s1E (F := F) c (seg (pr c lc k.val) 2)) (fun lc => f1E (F := F) c (seg (pr c lc k.val) 2)) (ql c + 1)
theorem colsB_sent (k : Fin 4) : colsB X W c k ⊢ iprop(sent1 X W c k ∗ rest1 (F := F) c k) := by
  unfold colsB colB sent1 rest1
  refine (Entails.of_eq (pairs_rot (fun lc => s1B X W c (seg (pr c lc k.val) 2)) (fun lc => f1B X W c (seg (pr c lc k.val) 2)) (ql c + 1))).trans ?_
  exact BI.sep_mono (Entails.refl _) (BI.sep_mono RB_RE (BI.sep_mono RB_RE (BI.sep_mono RB_RE (BI.sep_mono RB_RE RB_RE))))

/-- The arrival buffers: what the barrier gives away, and what stays. -/
theorem recv_cut : iprop(WE (F := F) c cc0_scratch4 ∗ WE c cc0_scratch5 ∗ WE c cc0_scratch7)
    = iprop(r1E c (seg 8 8) ∗ r1E c (seg 0 8) ∗ g1E c (seg 0 8) ∗ r1E c (seg 16 8) ∗ r2E c (seg 0 2) ∗ r2E c (seg 2 2) ∗ r2E c (seg 4 2)) := by
  rw [WE_rows (n := 24) c cc0_scratch4 (ro (n := 24)) ro_lt, WE_rows (n := 8) c cc0_scratch5 (ro (n := 8)) ro_lt, WE_rows (n := 6) c cc0_scratch7 (ro (n := 6)) ro_lt,
    RE_six, RE_add 0 8 16, RE_add (0 + 8) 8 8]
  simp only [s1E, f1E, r1E, g1E, r2E, Nat.reduceMul, Nat.reduceAdd, Nat.zero_add]
  ac_rfl
theorem s2_cut : WE (F := F) c cc0_scratch6 = iprop(s2E c (seg 0 2) ∗ s2E c (seg 2 2) ∗ s2E c (seg 4 2)) := by
  rw [WE_rows (n := 6) c cc0_scratch6 (ro (n := 6)) ro_lt, RE_six]

/-- The rows of others that the barrier handed over, by the round that uses them. -/
def gave' : sProp 𝕄 := iprop(peers1 (F := F) c 0 ∗ (peers1 c 1 ∗ peers1 c 2 ∗ peers1 c 3)
  ∗ (r2E (zp c 1) (seg 4 2) ∗ r2E (zp c 2) (seg 2 2) ∗ r2E (zp c 3) (seg 0 2)) ∗ WE (fl c) cc0_scratch9)
theorem gave_cut : gave (F := F) c = gave' c := by
  unfold gave gave' peers1
  simp only [r1E, g1E]
  rw [RE_pairs (c := sq c 3) 0, RE_pairs (c := sq c 2) 0, RE_pairs (c := sq c 1) 16]
  show _ = iprop((r1E (sq c 1) (seg (16 + 2 * 0) 2) ∗ g1E (sq c 2) (seg (2 * 0) 2) ∗ r1E (sq c 3) (seg (2 * 0) 2))
    ∗ ((r1E (sq c 1) (seg (16 + 2 * 1) 2) ∗ g1E (sq c 2) (seg (2 * 1) 2) ∗ r1E (sq c 3) (seg (2 * 1) 2))
      ∗ (r1E (sq c 1) (seg (16 + 2 * 2) 2) ∗ g1E (sq c 2) (seg (2 * 2) 2) ∗ r1E (sq c 3) (seg (2 * 2) 2))
      ∗ (r1E (sq c 1) (seg (16 + 2 * 3) 2) ∗ g1E (sq c 2) (seg (2 * 3) 2) ∗ r1E (sq c 3) (seg (2 * 3) 2)))
    ∗ (r2E (zp c 1) (seg 4 2) ∗ r2E (zp c 2) (seg 2 2) ∗ r2E (zp c 3) (seg 0 2)) ∗ WE (fl c) cc0_scratch9)
  simp only [Nat.zero_add]
  simp only [s1E, f1E, r1E, g1E, r2E, Nat.reduceMul, Nat.reduceAdd, Nat.zero_add]
  ac_rfl

/-- The arrival buffers filled again, with the rows nothing was sent to. -/
theorem recv_join : iprop(r1E (F := F) c (seg 8 8) ∗ (arr1 X W c 0 ∗ arr1 X W c 1 ∗ arr1 X W c 2 ∗ arr1 X W c 3) ∗ (r2B X W c (seg 0 2) ∗ r2B X W c (seg 2 2) ∗ r2B X W c (seg 4 2)))
    ⊢ iprop(WE (F := F) c cc0_scratch4 ∗ WE c cc0_scratch5 ∗ WE c cc0_scratch7) := by
  have h : ∀ k : Fin 4, arr1 X W c k ⊢ iprop(r1E (F := F) c (seg (16 + 2 * k.val) 2) ∗ g1E c (seg (2 * k.val) 2) ∗ r1E c (seg (2 * k.val) 2)) := fun k => by
    unfold arr1; exact BI.sep_mono RB_RE (BI.sep_mono RB_RE RB_RE)
  have e : iprop(WE (F := F) c cc0_scratch4 ∗ WE c cc0_scratch5 ∗ WE c cc0_scratch7) = iprop(r1E c (seg 8 8) ∗ ((r1E c (seg (16 + 2 * 0) 2) ∗ g1E c (seg (2 * 0) 2) ∗ r1E c (seg (2 * 0) 2))
      ∗ (r1E c (seg (16 + 2 * 1) 2) ∗ g1E c (seg (2 * 1) 2) ∗ r1E c (seg (2 * 1) 2))
      ∗ (r1E c (seg (16 + 2 * 2) 2) ∗ g1E c (seg (2 * 2) 2) ∗ r1E c (seg (2 * 2) 2))
      ∗ (r1E c (seg (16 + 2 * 3) 2) ∗ g1E c (seg (2 * 3) 2) ∗ r1E c (seg (2 * 3) 2))) ∗ (r2E c (seg 0 2) ∗ r2E c (seg 2 2) ∗ r2E c (seg 4 2))) := by
    rw [recv_cut]
    simp only [r1E, g1E]
    rw [RE_pairs (b := cc0_scratch4) 0, RE_pairs (b := cc0_scratch5) 0, RE_pairs (b := cc0_scratch4) 16]
    simp only [s1E, f1E, r1E, g1E, r2E, Nat.reduceMul, Nat.reduceAdd, Nat.zero_add]
    ac_rfl
  rw [e]
  exact BI.sep_mono (Entails.refl _) (BI.sep_mono (BI.sep_mono (h 0) (BI.sep_mono (h 1) (BI.sep_mono (h 2) (h 3)))) (BI.sep_mono RB_RE (BI.sep_mono RB_RE RB_RE)))
theorem acc_join : iprop(a1B X W c (seg (2 * zn c 0) 2) ∗ a1B X W c (seg (2 * zn c 1) 2) ∗ a1B X W c (seg (2 * zn c 2) 2) ∗ a2B X W c (seg (2 * zn c 3) 2))
    ⊢ WE (F := F) c cc0_scratch0 := by
  rw [acc_cut]; exact BI.sep_mono RB_RE (BI.sep_mono RB_RE (BI.sep_mono RB_RE RB_RE))
end Bufs

end Cert.KernelIdeal.Hand

end
-- ==== Proof.IRound.lean ====
/-
# The phases of the kernel
-/
module

public import proofs.«01_k».proof.Proof.ISplit

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

section Rounds
variable (K : Dev nD × Fin 10 → ℕ) (c : Dev nD) {α : Type} {Q : α → sProp (MT nD τ sig Unit (Elt F) ℕ UU ℕ)} {Kp : PR F α}

/-- The pay tokens of the seven barrier units. -/
def tokB : sProp 𝕄 := iprop(dutyTok ER (pcell c 0) 0 (pd 0) ∗ dutyTok ER (pcell c 1) 0 (pd 1) ∗ dutyTok ER (pcell c 2) 0 (pd 2) ∗ dutyTok ER (pcell c 3) 0 (pd 3)
  ∗ dutyTok ER (pcell c 4) 0 (pd 4) ∗ dutyTok ER (pcell c 5) 0 (pd 5) ∗ dutyTok ER (pcell c 6) 0 (pd 6))
/-- What they hand over. -/
def gifts : sProp 𝕄 := iprop(give (F := F) c (0 : Fin 23).val ∗ give c (1 : Fin 23).val ∗ give c (2 : Fin 23).val ∗ give c (3 : Fin 23).val ∗ give c (4 : Fin 23).val ∗ give c (5 : Fin 23).val ∗ give c (6 : Fin 23).val)
omit [FloatOps F] in
theorem gifts_eq : gifts (F := F) c = iprop(r1E (F := F) c (seg 0 8) ∗ g1E c (seg 0 8) ∗ r1E c (seg 16 8) ∗ r2E c (seg 0 2) ∗ r2E c (seg 2 2) ∗ r2E c (seg 4 2) ∗ WE c cc0_scratch9) := rfl
omit [FloatOps F] in
theorem ow7 : OW (F := F) c ((6 : Fin 23).val + 1) ⊢ OW c 7 := Entails.of_eq rfl

theorem wp_signals {n0 n1 n2 n3 n4 n5 n6 : Dev nD} (h0 : n0 = tgt c 0) (h1 : n1 = tgt c 1) (h2 : n2 = tgt c 2) (h3 : n3 = tgt c 3) (h4 : n4 = tgt c 4) (h5 : n5 = tgt c 5) (h6 : n6 = tgt c 6) :
    iprop(Inv X W K ∗ OW c 0 ∗ tokB (F := F) c ∗ gifts (F := F) c)
      ⊢ iprop((OW c 7 -∗ Wp c Kp Q) -∗ Wp c (signals n0 n1 n2 n3 n4 n5 n6 >>= fun _ => Kp) Q) := by
  unfold signals tokB gifts
  simp only [bind_assoc]
  iintro ⟨#HI, HO, ⟨T0, T1, T2, T3, T4, T5, T6⟩, ⟨G0, G1, G2, G3, G4, G5, G6⟩⟩ Hk
  iapply (wp_sig X W K c 0 (by decide) h0) $$ [HO T0 G0]
  · isplitr; · iexact HI
    isplitl [HO]; · iexact HO
    isplitl [T0]; · iexact T0
    iexact G0
  iintro HO
  iapply (wp_sig X W K c 1 (by decide) h1) $$ [HO T1 G1]
  · isplitr; · iexact HI
    isplitl [HO]; · iexact HO
    isplitl [T1]; · iexact T1
    iexact G1
  iintro HO
  iapply (wp_sig X W K c 2 (by decide) h2) $$ [HO T2 G2]
  · isplitr; · iexact HI
    isplitl [HO]; · iexact HO
    isplitl [T2]; · iexact T2
    iexact G2
  iintro HO
  iapply (wp_sig X W K c 3 (by decide) h3) $$ [HO T3 G3]
  · isplitr; · iexact HI
    isplitl [HO]; · iexact HO
    isplitl [T3]; · iexact T3
    iexact G3
  iintro HO
  iapply (wp_sig X W K c 4 (by decide) h4) $$ [HO T4 G4]
  · isplitr; · iexact HI
    isplitl [HO]; · iexact HO
    isplitl [T4]; · iexact T4
    iexact G4
  iintro HO
  iapply (wp_sig X W K c 5 (by decide) h5) $$ [HO T5 G5]
  · isplitr; · iexact HI
    isplitl [HO]; · iexact HO
    isplitl [T5]; · iexact T5
    iexact G5
  iintro HO
  iapply (wp_sig X W K c 6 (by decide) h6) $$ [HO T6 G6]
  · isplitr; · iexact HI
    isplitl [HO]; · iexact HO
    isplitl [T6]; · iexact T6
    iexact G6
  iintro HO
  ihave HO := (ow7 c) $$ HO
  iapply Hk $$ HO

/-- One round of the first exchange. -/
theorem wp_round1 {n1 n2 n3 : Dev nD} (h1 : n1 = sq c 1) (h2 : n2 = sq c 2) (h3 : n3 = sq c 3) (k : Fin 4) {z m m' : ℕ} (hz : z = k.val) (hm : m = 7 + 3 * k.val) (hm' : m' = 7 + 3 * k.val + 3) :
    iprop(Inv X W K ∗ OW c m ∗ WB c cc0_scratch1 (k0_pay1 (X c)) ∗ colsE (F := F) c k ∗ (tok1 c k 0 ∗ tok1 c k 1 ∗ tok1 c k 2) ∗ peers1 (F := F) c k ∗ aE (F := F) c (seg (2 * zn c z) 2))
      ⊢ iprop(((OW c m' ∗ WB c cc0_scratch1 (k0_pay1 (X c)) ∗ cred1 c ∗ rest1 (F := F) c k ∗ a1B X W c (seg (2 * zn c z) 2)) -∗ Wp c Kp Q)
        -∗ Wp c (round1 c n1 n2 n3 (k0_pay2 (W c)) k >>= fun _ => Kp) Q) := by
  subst hz hm hm'
  have hs := colsB_sent X W c k
  unfold colsB at hs
  unfold round1 colsE
  simp only [bind_assoc]
  iintro ⟨#HI, HO, Hx, Hc, Ht, Hp, Ha⟩ Hk
  iapply (wp_loadX X c k) $$ Hx
  iintro Hx
  iapply (wp_stores1 X W c k) $$ Hc
  iintro Hc
  ihave Hc := hs $$ Hc
  icases Hc with ⟨Hs, Hr⟩
  iapply (wp_send1 X W K c h1 h2 h3 k) $$ [HO Ht Hs Hp]
  · isplitr; · iexact HI
    isplitl [HO]; · iexact HO
    isplitl [Ht]; · iexact Ht
    isplitl [Hs]; · iexact Hs
    iexact Hp
  iintro ⟨Hcr, HO⟩
  iapply (wp_storeA X W c k) $$ Ha
  iintro Ha
  iapply Hk
  isplitl [HO]; · iexact HO
  isplitl [Hx]; · iexact Hx
  isplitl [Hcr]; · iexact Hcr
  isplitl [Hr]; · iexact Hr
  iexact Ha

/-- The first round, with the barrier. -/
theorem wp_round0 {n1 n2 n3 : Dev nD} (h1 : n1 = sq c 1) (h2 : n2 = sq c 2) (h3 : n3 = sq c 3) :
    iprop(Inv X W K ∗ levAts L lv ∗ OW c 7 ∗ WB c cc0_scratch1 (k0_pay1 (X c)) ∗ colsE (F := F) c 0 ∗ (tok1 c 0 0 ∗ tok1 c 0 1 ∗ tok1 c 0 2) ∗ aE (F := F) c (seg (2 * zn c 0) 2)
        ∗ cred (tallyAt (kcell (c, 0)) () 7) ∗ atPos ER (kcell (c, 0)) 0 ∅ 0)
      ⊢ iprop(((OW c 10 ∗ WB c cc0_scratch1 (k0_pay1 (X c)) ∗ cred1 c ∗ rest1 (F := F) c 0 ∗ a1B X W c (seg (2 * zn c 0) 2) ∗ done c 0
          ∗ ((peers1 (F := F) c 1 ∗ peers1 c 2 ∗ peers1 c 3) ∗ (r2E (F := F) (zp c 1) (seg 4 2) ∗ r2E (zp c 2) (seg 2 2) ∗ r2E (zp c 3) (seg 0 2)) ∗ WE (F := F) (fl c) cc0_scratch9)) -∗ Wp c Kp Q)
        -∗ Wp c (round0 c n1 n2 n3 (k0_pay2 (W c)) >>= fun _ => Kp) Q) := by
  change iprop(Inv X W K ∗ levAts L lv ∗ OW c 7 ∗ WB c cc0_scratch1 (k0_pay1 (X c)) ∗ colsE (F := F) c 0 ∗ (tok1 c 0 0 ∗ tok1 c 0 1 ∗ tok1 c 0 2) ∗ aE (F := F) c (seg (2 * zn c (0 : Fin 4).val) 2) ∗ cred (tallyAt (kcell (c, 0)) () 7) ∗ atPos ER (kcell (c, 0)) 0 ∅ 0) ⊢ _
  have hs := colsB_sent X W c 0
  unfold colsB at hs
  unfold round0 colsE
  simp only [bind_assoc]
  iintro ⟨#HI, #Hl, HO, Hx, Hc, Ht, Ha, Hcb, Hat⟩ Hk
  iapply (wp_loadX X c 0) $$ Hx
  iintro Hx
  iapply (wp_stores1 X W c 0) $$ Hc
  iintro Hc
  ihave Hc := hs $$ Hc
  icases Hc with ⟨Hs, Hr⟩
  iapply (wp_bar X W K c) $$ [Hcb HO Hat]
  · isplitr; · iexact HI
    isplitr; · iexact Hl
    isplitl [Hcb]; · iexact Hcb
    isplitl [HO]; · iexact HO
    iexact Hat
  iintro ⟨HO, Hd, Hg⟩
  ihave Hg := (Entails.of_eq (gave_cut c)) $$ Hg
  unfold gave'
  icases Hg with ⟨Hp, Hg⟩
  iapply (wp_send1 X W K c h1 h2 h3 0) $$ [HO Ht Hs Hp]
  · isplitr; · iexact HI
    isplitl [HO]; · iexact HO
    isplitl [Ht]; · iexact Ht
    isplitl [Hs]; · iexact Hs
    iexact Hp
  iintro ⟨Hcr, HO⟩
  iapply (wp_storeA X W c 0) $$ Ha
  iintro Ha
  iapply Hk
  isplitl [HO]; · iexact HO
  isplitl [Hx]; · iexact Hx
  isplitl [Hcr]; · iexact Hcr
  isplitl [Hr]; · iexact Hr
  isplitl [Ha]; · iexact Ha
  isplitl [Hd]; · iexact Hd
  iexact Hg

omit [FloatOps F] in
theorem RB_pair (c : Dev nD) (b : Ref sig .tc) (ρ : b.ty.Idx → ℕ) (a : ℕ) (V : b.ty.Contents (Elt F)) :
    iprop(RB c b ρ (seg a 1) V ∗ RB c b ρ (seg (a + 1) 1) V) ⊢ RB c b ρ (seg a 2) V := RB_pair_join

/-- One round of the second exchange. -/
theorem wp_round2 {n : Dev nD} (k : Fin 3) (k4 : Fin 4) (hk : k4 = k3 k) {z m m' e p d : ℕ} (hz : z = k.val) (hm : m = 19 + k.val) (hm' : m' = 19 + k.val + 1) (he : e = k.val + 1) (hp : p = 2 * k.val) (hd : d = 4 - 2 * k.val) (hn : n = zp c e) :
    iprop(Inv X W K ∗ levAts L lv ∗ OW c m ∗ credR c k4 ∗ atPos ER (kcell (c, c1 k4)) 0 ∅ 0 ∗ a1B X W c (seg (2 * zn c z) 2) ∗ s2E (F := F) c (seg p 2)
        ∗ (dutyTok ER (kcell (c, 6)) 0 (pk k) ∗ dutyTok ER (pcell c (pn k)) 0 (pd (pn k))) ∗ r2E (F := F) (zp c e) (seg d 2))
      ⊢ iprop(((OW c m' ∗ cred (tallyAt (kcell (c, 6)) () N2) ∗ done c (c1 k4) ∗ a1B X W c (seg (2 * zn c z) 2) ∗ arr1 X W c k4) -∗ Wp c Kp Q)
        -∗ Wp c (round2 c n k >>= fun _ => Kp) Q) := by
  subst hk hz hm hm' he hp hd
  have e0 := wp_ops2 X W c (Q := Q) (K := ops2 c k 1 >>= fun _ => send2 n k >>= fun _ => Kp) k 0
  have e1 := wp_ops2 X W c (Q := Q) (K := send2 n k >>= fun _ => Kp) k 1
  simp only [Fin.val_zero, Fin.val_one, Nat.add_zero] at e0 e1
  unfold round2
  simp only [bind_assoc]
  iintro ⟨#HI, #Hl, HO, Hc, Hat, Ha, Hs, Ht, Hr⟩ Hk
  iapply (wp_wait1 X W K c (k3 k) (19 + k.val) (by omega)) $$ [Hc HO Hat]
  · isplitr; · iexact HI
    isplitr; · iexact Hl
    isplitl [Hc]; · iexact Hc
    isplitl [HO]; · iexact HO
    iexact Hat
  iintro ⟨HO, Hd, Hv⟩
  unfold arr1
  icases Hv with ⟨Hh, Hg, Hv⟩
  ihave Hs := RE_pair_split $$ Hs
  icases Hs with ⟨S0, S1⟩
  iapply (e0) $$ [Ha Hv Hg Hh S0]
  · isplitl [Ha]; · iexact Ha
    isplitl [Hv]; · iexact Hv
    isplitl [Hg]; · iexact Hg
    isplitl [Hh]; · iexact Hh
    iexact S0
  iintro ⟨Ha, Hv, Hg, Hh, S0⟩
  iapply (e1) $$ [Ha Hv Hg Hh S1]
  · isplitl [Ha]; · iexact Ha
    isplitl [Hv]; · iexact Hv
    isplitl [Hg]; · iexact Hg
    isplitl [Hh]; · iexact Hh
    iexact S1
  iintro ⟨Ha, Hv, Hg, Hh, S1⟩
  ihave Hs := (RB_pair c cc0_scratch6 (ro (n := 6)) (2 * k.val) (st (n := 6) (S2V X W c))) $$ [S0 S1]
  · isplitl [S0]; · iexact S0
    iexact S1
  iapply (wp_send2 X W K c k hn) $$ [HO Ht Hs Hr]
  · isplitr; · iexact HI
    isplitl [HO]; · iexact HO
    isplitl [Ht]; · iexact Ht
    isplitl [Hs]; · iexact Hs
    iexact Hr
  iintro ⟨Hcr, HO⟩
  iapply Hk
  isplitl [HO]; · iexact HO
  isplitl [Hcr]; · iexact Hcr
  isplitl [Hd]; · iexact Hd
  isplitl [Ha]; · iexact Ha
  isplitl [Hh]; · iexact Hh
  isplitl [Hg]; · iexact Hg
  iexact Hv

/-- The end of the first exchange: the last arrivals added into the accumulator. -/
theorem wp_accum :
    iprop(Inv X W K ∗ levAts L lv ∗ OW c 22 ∗ credR c 3 ∗ atPos ER (kcell (c, c1 3)) 0 ∅ 0 ∗ a1B X W c (seg (2 * zn c 3) 2))
      ⊢ iprop(((OW c 22 ∗ done c (c1 3) ∗ a2B X W c (seg (2 * zn c 3) 2) ∗ arr1 X W c 3) -∗ Wp c Kp Q)
        -∗ Wp c (wait1 c 3 >>= fun _ => opsA c 0 >>= fun _ => opsA c 1 >>= fun _ => Kp) Q) := by
  have e0 := wp_opsA X W c (Q := Q) (K := opsA c 1 >>= fun _ => Kp) 0
  have e1 := wp_opsA X W c (Q := Q) (K := Kp) 1
  simp only [Fin.val_zero, Fin.val_one, Nat.add_zero] at e0 e1
  iintro ⟨#HI, #Hl, HO, Hc, Hat, Ha⟩ Hk
  iapply (wp_wait1 X W K c 3 22 (by omega)) $$ [Hc HO Hat]
  · isplitr; · iexact HI
    isplitr; · iexact Hl
    isplitl [Hc]; · iexact Hc
    isplitl [HO]; · iexact HO
    iexact Hat
  iintro ⟨HO, Hd, Hv⟩
  unfold arr1
  icases Hv with ⟨Hh, Hg, Hv⟩
  ihave Ha := RB_pair_split $$ Ha
  icases Ha with ⟨A0, A1⟩
  iapply (e0) $$ [A0 Hv Hg Hh]
  · isplitl [A0]; · iexact A0
    isplitl [Hv]; · iexact Hv
    isplitl [Hg]; · iexact Hg
    iexact Hh
  iintro ⟨A0, Hv, Hg, Hh⟩
  iapply (e1) $$ [A1 Hv Hg Hh]
  · isplitl [A1]; · iexact A1
    isplitl [Hv]; · iexact Hv
    isplitl [Hg]; · iexact Hg
    iexact Hh
  iintro ⟨A1, Hv, Hg, Hh⟩
  iapply Hk
  isplitl [HO]; · iexact HO
  isplitl [Hd]; · iexact Hd
  isplitl [A0 A1]
  · iapply (RB_pair c cc0_scratch0 (ro (n := 8)) (2 * zn c 3) (st (n := 8) (A2V X W c)))
    isplitl [A0]; · iexact A0
    iexact A1
  isplitl [Hh]; · iexact Hh
  isplitl [Hg]; · iexact Hg
  iexact Hv

/-- The last exchange and the result. -/
theorem wp_last {n : Dev nD} (hn : n = fl c) :
    iprop(Inv X W K ∗ levAts L lv ∗ OW c 22 ∗ (cred3 c 7 N2 ∗ atPos ER (kcell (c, 7)) 0 ∅ 0) ∗ a2B X W c (seg (2 * zn c 3) 2) ∗ WE (F := F) c cc0_scratch8
        ∗ (dutyTok ER (kcell (c, 8)) 0 0 ∗ dutyTok ER (pcell c 22) 0 (pd 22)) ∗ WE (F := F) (fl c) cc0_scratch9 ∗ (cred (tallyAt (kcell (c, 9)) () N3) ∗ atPos ER (kcell (c, 9)) 0 ∅ 0) ∗ WE (F := F) c cc0_stg2_0)
      ⊢ iprop(((OW c 23 ∗ done c 7 ∗ done c 9 ∗ cred (tallyAt (kcell (c, 8)) () N3) ∗ lastIn X W c ∗ WB c cc0_scratch9 (R3V X W c) ∗ WB c cc0_stg2_0 (outV X W c)) -∗ Wp c Kp Q)
        -∗ Wp c (wait2 >>= fun _ => part3 c n >>= fun _ => part4 c >>= fun _ => Kp) Q) := by
  iintro ⟨#HI, #Hl, HO, ⟨Hc7, Hat7⟩, Ha, H8, Ht, Hf, ⟨Hc9, Hat9⟩, Hout⟩ Hk
  iapply (wp_wait2 X W K c) $$ [Hc7 HO Hat7]
  · isplitr; · iexact HI
    isplitr; · iexact Hl
    isplitl [Hc7]; · iexact Hc7
    isplitl [HO]; · iexact HO
    iexact Hat7
  iintro ⟨HO, Hd7, R4, R2, R0⟩
  iapply (wp_part3 X W c n) $$ [Ha R0 R2 R4 H8]
  · unfold lastIn
    isplitl [Ha R0 R2 R4]
    · isplitl [Ha]; · iexact Ha
      isplitl [R0]; · iexact R0
      isplitl [R2]; · iexact R2
      iexact R4
    iexact H8
  iintro ⟨Hin, H8⟩
  iapply (wp_send3 X W K c hn) $$ [HO Ht H8 Hf]
  · isplitr; · iexact HI
    isplitl [HO]; · iexact HO
    isplitl [Ht]; · iexact Ht
    isplitl [H8]; · iexact H8
    iexact Hf
  iintro ⟨Hc8, HO⟩
  iapply (wp_part4a X W c) $$ Hin
  iintro Hin
  iapply (wp_wait3 X W K c) $$ [Hc9 HO Hat9]
  · isplitr; · iexact HI
    isplitr; · iexact Hl
    isplitl [Hc9]; · iexact Hc9
    isplitl [HO]; · iexact HO
    iexact Hat9
  iintro ⟨HO, Hd9, H9⟩
  iapply (wp_out4 X W c) $$ [H9 Hout]
  · isplitl [H9]; · iexact H9
    iexact Hout
  iintro ⟨H9, Hout⟩
  iapply Hk
  isplitl [HO]; · iexact HO
  isplitl [Hd7]; · iexact Hd7
  isplitl [Hd9]; · iexact Hd9
  isplitl [Hc8]; · iexact Hc8
  isplitl [Hin]; · iexact Hin
  isplitl [H9]; · iexact H9
  iexact Hout

/-- The sends' buffers come back. -/
theorem wp_finish :
    iprop(Inv X W K ∗ levAts L lv ∗ OW c 23 ∗ (cred1 (F := F) c ∗ cred1 (F := F) c ∗ cred1 (F := F) c ∗ cred1 (F := F) c) ∗ cred3 (F := F) c 6 N2 ∗ cred (tallyAt (kcell (c, 8)) () N3)
        ∗ atPos ER (kcell (c, 1)) 0 ∅ 0 ∗ atPos ER (kcell (c, 6)) 0 ∅ 0 ∗ atPos ER (kcell (c, 8)) 0 ∅ 0)
      ⊢ iprop(((OW c 23 ∗ done c 1 ∗ done c 6 ∗ done c 8 ∗ (back (F := F) c 0 ∗ back c 1 ∗ back c 2 ∗ back c 3) ∗ (s2E (F := F) c (seg 0 2) ∗ s2E c (seg 2 2) ∗ s2E c (seg 4 2)) ∗ WE (F := F) c cc0_scratch8) -∗ Wp c Kp Q)
        -∗ Wp c (finish c >>= fun _ => Kp) Q) := by
  unfold finish
  simp only [bind_assoc]
  iintro ⟨#HI, #Hl, HO, ⟨C0, C1, C2, C3⟩, C6, C8, A1, A6, A8⟩ Hk
  ihave A1 := (acc_start X W c 1) $$ A1
  iapply (wp_waitS1 X W K c 0 0 (ms 1) (by unfold ms; omega)) $$ [C0 HO A1]
  · isplitr; · iexact HI
    isplitr; · iexact Hl
    isplitl [C0]; · iexact C0
    isplitl [HO]; · iexact HO
    iexact A1
  iintro ⟨HO, A1⟩
  iapply (wp_waitS1 X W K c 1 (ms 1) (ms 2) (by unfold ms; omega)) $$ [C1 HO A1]
  · isplitr; · iexact HI
    isplitr; · iexact Hl
    isplitl [C1]; · iexact C1
    isplitl [HO]; · iexact HO
    iexact A1
  iintro ⟨HO, A1⟩
  iapply (wp_waitS1 X W K c 2 (ms 2) (ms 3) (by unfold ms; omega)) $$ [C2 HO A1]
  · isplitr; · iexact HI
    isplitr; · iexact Hl
    isplitl [C2]; · iexact C2
    isplitl [HO]; · iexact HO
    iexact A1
  iintro ⟨HO, A1⟩
  iapply (wp_waitS1z X W K c) $$ [C3 HO A1]
  · isplitr; · iexact HI
    isplitr; · iexact Hl
    isplitl [C3]; · iexact C3
    isplitl [HO]; · iexact HO
    iexact A1
  iintro ⟨HO, D1, Hb⟩
  iapply (wp_waitS2 X W K c) $$ [C6 HO A6]
  · isplitr; · iexact HI
    isplitr; · iexact Hl
    isplitl [C6]; · iexact C6
    isplitl [HO]; · iexact HO
    iexact A6
  iintro ⟨HO, D6, Hs⟩
  iapply (wp_waitS3 X W K c) $$ [C8 HO A8]
  · isplitr; · iexact HI
    isplitr; · iexact Hl
    isplitl [C8]; · iexact C8
    isplitl [HO]; · iexact HO
    iexact A8
  iintro ⟨HO, D8, H8⟩
  iapply Hk
  isplitl [HO]; · iexact HO
  isplitl [D1]; · iexact D1
  isplitl [D6]; · iexact D6
  isplitl [D8]; · iexact D8
  isplitl [Hb]; · iexact Hb
  isplitl [Hs]; · iexact Hs
  iexact H8
end Rounds

end Cert.KernelIdeal.Hand

end
-- ==== Proof.IBody.lean ====
/-
# The kernel on one device
-/
module

public import proofs.«01_k».proof.Proof.IRound

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

section Body
variable (K : Dev nD × Fin 10 → ℕ) (c : Dev nD) {α : Type} {Q : α → sProp (MT nD τ sig Unit (Elt F) ℕ UU ℕ)} {Kp : PR F α}

/-- The start of every one of the device's cells. -/
def ats : sProp 𝕄 := iprop(atPos ER (kcell (c, 0)) 0 ∅ 0 ∗ atPos ER (kcell (c, 1)) 0 ∅ 0 ∗ (atPos ER (kcell (c, c1 0)) 0 ∅ 0 ∗ atPos ER (kcell (c, c1 1)) 0 ∅ 0 ∗ atPos ER (kcell (c, c1 2)) 0 ∅ 0 ∗ atPos ER (kcell (c, c1 3)) 0 ∅ 0)
  ∗ atPos ER (kcell (c, 6)) 0 ∅ 0 ∗ atPos ER (kcell (c, 7)) 0 ∅ 0 ∗ atPos ER (kcell (c, 8)) 0 ∅ 0 ∗ atPos ER (kcell (c, 9)) 0 ∅ 0)
/-- The tokens of a copy between planes; of all the payments. -/
def tok2 (k : Fin 3) : sProp 𝕄 := iprop(dutyTok ER (kcell (c, 6)) 0 (pk k) ∗ dutyTok ER (pcell c (pn k)) 0 (pd (pn k)))
def toks1 (k : Fin 4) : sProp 𝕄 := iprop(tok1 (F := F) c k 0 ∗ tok1 c k 1 ∗ tok1 c k 2)
def tok3 : sProp 𝕄 := iprop(dutyTok ER (kcell (c, 8)) 0 0 ∗ dutyTok ER (pcell c 22) 0 (pd 22))
def toks : sProp 𝕄 := iprop(tokB (F := F) c ∗ (toks1 (F := F) c 0 ∗ toks1 c 1 ∗ toks1 c 2 ∗ toks1 c 3) ∗ (tok2 (F := F) c 0 ∗ tok2 c 1 ∗ tok2 c 2) ∗ tok3 (F := F) c)
/-- The claims on what others pay. -/
def claims : sProp 𝕄 := iprop(cred (tallyAt (kcell (c, 0)) () 7) ∗ (credR (F := F) c 0 ∗ credR c 1 ∗ credR c 2 ∗ credR c 3) ∗ cred3 (F := F) c 7 N2 ∗ cred (tallyAt (kcell (c, 9)) () N3))
/-- The scratch buffers. -/
def scr : sProp 𝕄 := iprop(WE (F := F) c cc0_scratch0 ∗ WE c cc0_scratch1 ∗ (WE c cc0_scratch2 ∗ WE c cc0_scratch3) ∗ (WE c cc0_scratch4 ∗ WE c cc0_scratch5 ∗ WE c cc0_scratch7) ∗ WE c cc0_scratch6 ∗ WE c cc0_scratch8 ∗ WE c cc0_scratch9)
/-- All ten cells with their round over. -/
def dones : sProp 𝕄 := iprop(done (F := F) c 0 ∗ done c 1 ∗ (done c (c1 0) ∗ done c (c1 1) ∗ done c (c1 2) ∗ done c (c1 3)) ∗ done c 6 ∗ done c 7 ∗ done c 8 ∗ done c 9)

omit [FloatOps F] in
theorem cred3_def : cred3 (F := F) c 6 N2 = iprop(cred (tallyAt (kcell (c, 6)) () N2) ∗ cred (tallyAt (kcell (c, 6)) () N2) ∗ cred (tallyAt (kcell (c, 6)) () N2)) := rfl

/-- The kernel on device `c`: from its buffers, tokens and claims to its result and every cell's round over. -/
theorem wp_phases :
    iprop(Inv X W K ∗ levAts L lv ∗ OW c 0 ∗ ats (F := F) c ∗ toks (F := F) c ∗ claims (F := F) c ∗ scr (F := F) c ∗ (WB c cc0_stg0_0 (X c) ∗ WB c cc0_stg1_0 (W c) ∗ WE (F := F) c cc0_stg2_0))
      ⊢ iprop(((OW c 23 ∗ dones (F := F) c ∗ scr (F := F) c ∗ (WB c cc0_stg0_0 (X c) ∗ WB c cc0_stg1_0 (W c) ∗ WB c cc0_stg2_0 (outV X W c))) -∗ Wp c Kp Q)
        -∗ Wp c (phases c >>= fun _ => Kp) Q) := by
  have hsend := send_cut (F := F) c
  unfold phases ats toks claims scr dones toks1 tok2 tok3
  simp only [bind_assoc]
  iintro ⟨#HI, #Hl, HO, ⟨P0, P1, ⟨Q0, Q1, Q2, Q3⟩, P6, P7, P8, P9⟩, ⟨TB, ⟨T0, T1, T2, T3⟩, ⟨U0, U1, U2⟩, T8⟩, ⟨CB, ⟨C0, C1, C2, C3⟩, C7, C9⟩, ⟨S0, S1, Hs, Hr, S6, S8, S9⟩, ⟨Hx, Hw, Ho⟩⟩ Hk
  ihave Hr := (Entails.of_eq (recv_cut c)) $$ Hr
  icases Hr with ⟨Rk, R0, G0, R1, R2, R3, R4⟩
  ihave Hg := (Entails.of_eq (gifts_eq c).symm) $$ [R0 G0 R1 R2 R3 R4 S9]
  · isplitl [R0]; · iexact R0
    isplitl [G0]; · iexact G0
    isplitl [R1]; · iexact R1
    isplitl [R2]; · iexact R2
    isplitl [R3]; · iexact R3
    isplitl [R4]; · iexact R4
    iexact S9
  iapply (wp_signals X W K c (dev1_eq c) (dev2_eq c) (dev3_eq c) (dev4_eq c) (dev5_eq c) (dev6_eq c) (dev7_eq c)) $$ [HO TB Hg]
  · isplitr; · iexact HI
    isplitl [HO]; · iexact HO
    isplitl [TB]; · iexact TB
    iexact Hg
  iintro HO
  iapply (wp_readIn X W c) $$ [Hx Hw S1]
  · isplitl [Hx]; · iexact Hx
    isplitl [Hw]; · iexact Hw
    iexact S1
  iintro ⟨Hx, Hw, S1⟩
  ihave Hs := (Entails.of_eq hsend) $$ Hs
  icases Hs with ⟨K0, K1, K2, K3⟩
  ihave S0 := (Entails.of_eq (acc_cut c)) $$ S0
  icases S0 with ⟨A0, A1, A2, A3⟩
  iapply (wp_round0 X W K c (dev8_eq c) (dev9_eq c) (dev10_eq c)) $$ [HO S1 K0 T0 A0 CB P0]
  · isplitr; · iexact HI
    isplitr; · iexact Hl
    isplitl [HO]; · iexact HO
    isplitl [S1]; · iexact S1
    isplitl [K0]; · iexact K0
    isplitl [T0]; · iexact T0
    isplitl [A0]; · iexact A0
    isplitl [CB]; · iexact CB
    iexact P0
  iintro ⟨HO, S1, B0, K0, A0, D0, ⟨V1, V2, V3⟩, ⟨V4, V5, V6⟩, V7⟩
  iapply (wp_round1 X W K c (dev11_eq c) (dev12_eq c) (dev13_eq c) 1 (z := 1) (m := 10) (m' := 13) rfl rfl rfl) $$ [HO S1 K1 T1 V1 A1]
  · isplitr; · iexact HI
    isplitl [HO]; · iexact HO
    isplitl [S1]; · iexact S1
    isplitl [K1]; · iexact K1
    isplitl [T1]; · iexact T1
    isplitl [V1]; · iexact V1
    iexact A1
  iintro ⟨HO, S1, B1, K1, A1⟩
  iapply (wp_round1 X W K c (dev14_eq c) (dev15_eq c) (dev16_eq c) 2 (z := 2) (m := 13) (m' := 16) rfl rfl rfl) $$ [HO S1 K2 T2 V2 A2]
  · isplitr; · iexact HI
    isplitl [HO]; · iexact HO
    isplitl [S1]; · iexact S1
    isplitl [K2]; · iexact K2
    isplitl [T2]; · iexact T2
    isplitl [V2]; · iexact V2
    iexact A2
  iintro ⟨HO, S1, B2, K2, A2⟩
  iapply (wp_round1 X W K c (dev17_eq c) (dev18_eq c) (dev19_eq c) 3 (z := 3) (m := 16) (m' := 19) rfl rfl rfl) $$ [HO S1 K3 T3 V3 A3]
  · isplitr; · iexact HI
    isplitl [HO]; · iexact HO
    isplitl [S1]; · iexact S1
    isplitl [K3]; · iexact K3
    isplitl [T3]; · iexact T3
    isplitl [V3]; · iexact V3
    iexact A3
  iintro ⟨HO, S1, B3, K3, A3⟩
  ihave S6 := (Entails.of_eq (s2_cut c)) $$ S6
  icases S6 with ⟨M0, M1, M2⟩
  iapply (wp_round2 X W K c 0 0 rfl (z := 0) (m := 19) (m' := 20) (e := 1) (p := 0) (d := 4) rfl rfl rfl rfl rfl rfl (dev20_eq c)) $$ [HO C0 Q0 A0 M0 U0 V4]
  · isplitr; · iexact HI
    isplitr; · iexact Hl
    isplitl [HO]; · iexact HO
    isplitl [C0]; · iexact C0
    isplitl [Q0]; · iexact Q0
    isplitl [A0]; · iexact A0
    isplitl [M0]; · iexact M0
    isplitl [U0]; · iexact U0
    iexact V4
  iintro ⟨HO, E0, D2, A0, W0⟩
  iapply (wp_round2 X W K c 1 1 rfl (z := 1) (m := 20) (m' := 21) (e := 2) (p := 2) (d := 2) rfl rfl rfl rfl rfl rfl (dev21_eq c)) $$ [HO C1 Q1 A1 M1 U1 V5]
  · isplitr; · iexact HI
    isplitr; · iexact Hl
    isplitl [HO]; · iexact HO
    isplitl [C1]; · iexact C1
    isplitl [Q1]; · iexact Q1
    isplitl [A1]; · iexact A1
    isplitl [M1]; · iexact M1
    isplitl [U1]; · iexact U1
    iexact V5
  iintro ⟨HO, E1, D3, A1, W1⟩
  iapply (wp_round2 X W K c 2 2 rfl (z := 2) (m := 21) (m' := 22) (e := 3) (p := 4) (d := 0) rfl rfl rfl rfl rfl rfl (dev22_eq c)) $$ [HO C2 Q2 A2 M2 U2 V6]
  · isplitr; · iexact HI
    isplitr; · iexact Hl
    isplitl [HO]; · iexact HO
    isplitl [C2]; · iexact C2
    isplitl [Q2]; · iexact Q2
    isplitl [A2]; · iexact A2
    isplitl [M2]; · iexact M2
    isplitl [U2]; · iexact U2
    iexact V6
  iintro ⟨HO, E2, D4, A2, W2⟩
  iapply (wp_accum X W K c) $$ [HO C3 Q3 A3]
  · isplitr; · iexact HI
    isplitr; · iexact Hl
    isplitl [HO]; · iexact HO
    isplitl [C3]; · iexact C3
    isplitl [Q3]; · iexact Q3
    iexact A3
  iintro ⟨HO, D5, A3, W3⟩
  iapply (wp_last X W K c (dev23_eq c)) $$ [HO C7 P7 A3 S8 T8 V7 C9 P9 Ho]
  · isplitr; · iexact HI
    isplitr; · iexact Hl
    isplitl [HO]; · iexact HO
    isplitl [C7 P7]
    · isplitl [C7]; · iexact C7
      iexact P7
    isplitl [A3]; · iexact A3
    isplitl [S8]; · iexact S8
    isplitl [T8]; · iexact T8
    isplitl [V7]; · iexact V7
    isplitl [C9 P9]
    · isplitl [C9]; · iexact C9
      iexact P9
    iexact Ho
  iintro ⟨HO, D7, D9, C8, Hin, S9, Ho⟩
  ihave E := (Entails.of_eq (cred3_def c).symm) $$ [E0 E1 E2]
  · isplitl [E0]; · iexact E0
    isplitl [E1]; · iexact E1
    iexact E2
  iapply (wp_finish X W K c (Kp := Kp)) $$ [HO B0 B1 B2 B3 E C8 P1 P6 P8]
  · isplitr; · iexact HI
    isplitr; · iexact Hl
    isplitl [HO]; · iexact HO
    isplitl [B0 B1 B2 B3]
    · isplitl [B0]; · iexact B0
      isplitl [B1]; · iexact B1
      isplitl [B2]; · iexact B2
      iexact B3
    isplitl [E]; · iexact E
    isplitl [C8]; · iexact C8
    isplitl [P1]; · iexact P1
    isplitl [P6]; · iexact P6
    iexact P8
  iintro ⟨HO, D1, D6, D8, ⟨B0, B1, B2, B3⟩, Hs2, S8⟩
  unfold lastIn
  icases Hin with ⟨A3, R0, R2, R4⟩
  iapply Hk
  isplitl [HO]; · iexact HO
  isplitl [D0 D1 D2 D3 D4 D5 D6 D7 D8 D9]
  · isplitl [D0]; · iexact D0
    isplitl [D1]; · iexact D1
    isplitl [D2 D3 D4 D5]
    · isplitl [D2]; · iexact D2
      isplitl [D3]; · iexact D3
      isplitl [D4]; · iexact D4
      iexact D5
    isplitl [D6]; · iexact D6
    isplitl [D7]; · iexact D7
    isplitl [D8]; · iexact D8
    iexact D9
  isplitr [Hx Hw Ho]
  · isplitl [A0 A1 A2 A3]
    · iapply (acc_join X W c)
      isplitl [A0]; · iexact A0
      isplitl [A1]; · iexact A1
      isplitl [A2]; · iexact A2
      iexact A3
    isplitl [S1]; · iapply RB_RE; iexact S1
    isplitl [B0 B1 B2 B3 K0 K1 K2 K3]
    · iapply (Entails.of_eq hsend.symm)
      isplitl [B0 K0]; · iapply (Entails.of_eq (colsE_rot c 0).symm); isplitl [B0]; · iexact B0
                         iexact K0
      isplitl [B1 K1]; · iapply (Entails.of_eq (colsE_rot c 1).symm); isplitl [B1]; · iexact B1
                         iexact K1
      isplitl [B2 K2]; · iapply (Entails.of_eq (colsE_rot c 2).symm); isplitl [B2]; · iexact B2
                         iexact K2
      iapply (Entails.of_eq (colsE_rot c 3).symm); isplitl [B3]; · iexact B3
      iexact K3
    isplitl [Rk W0 W1 W2 W3 R0 R2 R4]
    · iapply (recv_join X W c)
      isplitl [Rk]; · iexact Rk
      isplitl [W0 W1 W2 W3]
      · isplitl [W0]; · iexact W0
        isplitl [W1]; · iexact W1
        isplitl [W2]; · iexact W2
        iexact W3
      isplitl [R0]; · iexact R0
      isplitl [R2]; · iexact R2
      iexact R4
    isplitl [Hs2]; · iapply (Entails.of_eq (s2_cut c).symm); iexact Hs2
    isplitl [S8]; · iexact S8
    iapply RB_RE; iexact S9
  isplitl [Hx]; · iexact Hx
  isplitl [Hw]; · iexact Hw
  iexact Ho
end Body

end Cert.KernelIdeal.Hand

end
-- ==== Proof.IFlat.lean ====
module
public import proofs.«01_k».proof.Proof.IProg
@[expose] public section
set_option maxRecDepth 65536
noncomputable section
namespace Cert.KernelIdeal.Hand
open Cert.KernelIdeal Cert.KernelIdeal.Gen
open Idealize.ShloMosaic Idealize.ShloMosaic.TcCoe Idealize.SL.Sem
variable {F : FTy → Type} [FloatOps F]

set_option maxHeartbeats 4000000 in
theorem body_eq :
  cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  = (do let d0 ← Prog.lift .deviceId; phases d0) := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, phases, signals, readIn, round0, round1, round2, finish, waitS1, waitS2, waitS3, wait1, wait2, part3, part4, opsA, ops2, send2, send1, storeA, loadX, stores1, ops1, semSignalWord, semWaitWord, Prog.lift, Prog.bind_op, Prog.bind_ret, Prog.pure_eq_ret]
  repeat (refine congrArg (Prog.op _) (funext fun _ => ?_))
  rfl

end Cert.KernelIdeal.Hand
end
-- ==== Proof.IOblig.lean ====
/-
# The kernel's obligation

The proof on one device, put into the form the launch asks for.
-/
module

public import proofs.«01_k».proof.Proof.IBody
public import proofs.«01_k».proof.Proof.IFlat
@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

variable (m : (ℓ : Loc nD τ sig) → Buf (Elt F) ℓ) (ρ : Dev nD → PrngReg)

/-- The memory at launch: any contents, every counter zero. -/
def s₀ : MemSt nD τ sig (Elt F) := ⟨m, fun _ => 0, ρ⟩
/-- A device's columns of the first matrix and rows of the second. -/
def xstg (c : Dev nD) : Vec F S1024x32 .bf16 := (win0_0.blk (0 : Fin 1)).view.read (Elt F) ((s₀ m ρ).mem ((c : Thread nD τ).loc main_arg0))
def wstg (c : Dev nD) : Vec F S32x1024 .bf16 := (win0_1.blk (0 : Fin 1)).view.read (Elt F) ((s₀ m ρ).mem ((c : Thread nD τ).loc main_arg1))
/-- The rows of the product it ends with. -/
def ostg (c : Dev nD) : (cc0_stg2_0 : Ref sig .tc).ty.Contents (Elt F) := outV (xstg m ρ) (wstg m ρ) c

/-- What a device starts from beside its buffers. -/
def start (c : Dev nD) : sProp 𝕄 :=
  iprop((∃ K, Inv (xstg m ρ) (wstg m ρ) K ∗ ats (F := F) c ∗ toks (F := F) c) ∗ claims (F := F) c ∗ levAts L lv)
/-- Its ten counters back at zero. -/
def zeros (c : Dev nD) : sProp 𝕄 := iprop(semVal (kcell (c, 0)) 0 ∗ semVal (kcell (c, 1)) 0 ∗ semVal (kcell (c, (c1 0))) 0 ∗ semVal (kcell (c, (c1 1))) 0 ∗ semVal (kcell (c, (c1 2))) 0 ∗ semVal (kcell (c, (c1 3))) 0 ∗ semVal (kcell (c, 6)) 0 ∗ semVal (kcell (c, 7)) 0 ∗ semVal (kcell (c, 8)) 0 ∗ semVal (kcell (c, 9)) 0)
def Φ₀ (c : Dev nD) : sProp 𝕄 := iprop(start m ρ c ∗ scr (F := F) c)
def Φ₁ (c : Dev nD) : sProp 𝕄 := iprop(zeros (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => ostg m ρ c
  Φ t := match t with
    | ⟨0, _⟩ => Φ₀ m ρ c
    | ⟨_ + 1, _⟩ => Φ₁ (F := F) c
  q _ := fullShare
  owed t := match t with
    | ⟨0, _⟩ => owe c 0
    | ⟨_ + 1, _⟩ => 0

/-! ## Closing the cells -/

theorem close_one (K : Dev nD × Fin 10 → ℕ) (c : Dev nD) (j : Fin 10) :
    iprop(Inv X W K ∗ done (F := F) c j) ⊢ |={Set.univ}=> semVal (kcell (c, j)) 0 := by
  iintro ⟨#HI, Hat⟩
  ihave HIc := (inv_at X W K (c, j)) $$ HI
  icases HIc with ⟨#HIc, -⟩
  iapply (Rounds.cell_close ER (Rd X W) (Set.mem_univ (K (c, j))) (fun h => h) (R := 0 + 1) (duties_later X W (kcell (c, j)))) $$ [Hat]
  isplitr; · iexact HIc
  iexact Hat

theorem close_all (K : Dev nD × Fin 10 → ℕ) (c : Dev nD) :
    iprop(Inv X W K ∗ dones (F := F) c) ⊢ |={Set.univ}=> zeros (F := F) c := by
  unfold dones zeros
  iintro ⟨#HI, D0, D1, ⟨D2, D3, D4, D5⟩, D6, D7, D8, D9⟩
  imod (close_one X W K c 0) $$ [D0] with D0
  · isplitr; · iexact HI
    iexact D0
  imod (close_one X W K c 1) $$ [D1] with D1
  · isplitr; · iexact HI
    iexact D1
  imod (close_one X W K c (c1 0)) $$ [D2] with D2
  · isplitr; · iexact HI
    iexact D2
  imod (close_one X W K c (c1 1)) $$ [D3] with D3
  · isplitr; · iexact HI
    iexact D3
  imod (close_one X W K c (c1 2)) $$ [D4] with D4
  · isplitr; · iexact HI
    iexact D4
  imod (close_one X W K c (c1 3)) $$ [D5] with D5
  · isplitr; · iexact HI
    iexact D5
  imod (close_one X W K c 6) $$ [D6] with D6
  · isplitr; · iexact HI
    iexact D6
  imod (close_one X W K c 7) $$ [D7] with D7
  · isplitr; · iexact HI
    iexact D7
  imod (close_one X W K c 8) $$ [D8] with D8
  · isplitr; · iexact HI
    iexact D8
  imod (close_one X W K c 9) $$ [D9] with D9
  · isplitr; · iexact HI
    iexact D9
  imodintro
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  iexact D9

/-! ## The body -/

omit [FloatOps F] in
theorem WE_ex (c : Dev nD) (b : Ref sig .tc) : WE (F := F) c b = iprop(∃ f : Buf (Elt F) ((c : Thread nD τ).loc b), ((c : Thread nD τ).loc b) ↦{fullShare} f) := by
  unfold WE RE
  exact congrArg _ (funext fun V => WB_eq c b V)

abbrev stg (c : Dev nD) (b : Ref sig .tc) (V : b.ty.Contents (Elt F)) : sProp 𝕄 :=
  iprop(∃ f : Buf (Elt F) ((c : Thread nD τ).loc b), ⌜f = V⌝ ∗ (((c : Thread nD τ).loc b) ↦{fullShare} f))
omit [FloatOps F] in
theorem owns_whole (c : Dev nD) (b : Ref sig .tc) (V : b.ty.Contents (Elt F)) :
    (owns (Ix := Unit) (Name := ℕ) (U := UU) (Lvl := ℕ) (c : Thread nD τ) (Memref.whole b) fullShare V : sProp 𝕄) = stg c b V := by
  unfold owns; simp only [Memref.view_whole, View.read_whole, View.set_whole]
omit [FloatOps F] in
theorem stg_WB (c : Dev nD) (b : Ref sig .tc) (V : b.ty.Contents (Elt F)) : stg c b V ⊢ WB c b V := by
  rw [WB_eq]; iintro ⟨%f, %hf, H⟩; subst hf; iexact H
omit [FloatOps F] in
theorem stg_WE (c : Dev nD) (b : Ref sig .tc) (V : b.ty.Contents (Elt F)) : stg c b V ⊢ WE (F := F) c b := by
  rw [WE_ex]; iintro ⟨%f, -, H⟩; iexists f; iexact H
omit [FloatOps F] in
theorem WB_stg (c : Dev nD) (b : Ref sig .tc) (V : b.ty.Contents (Elt F)) : WB c b V ⊢ stg c b V := by
  rw [WB_eq]; iintro H; iexists V; isplitr; · (ipureintro; rfl)
  iexact H

section Ob
variable (c : Dev nD)

theorem before_0 (d) : (dats m ρ 0 c).before (0 : Fin 3) t0_0 d = xstg m ρ c := by
  unfold Dat.before; rw [if_pos (fetch0_0 t0_0)]; rfl
theorem before_1 (d) : (dats m ρ 0 c).before (1 : Fin 3) t0_0 d = wstg m ρ c := by
  unfold Dat.before; rw [if_pos (fetch0_1 t0_0)]; rfl

def bodyPre : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (ostg m ρ c))

/-- What the device owes, before and after. -/
theorem owes_in : (dats m ρ 0 c).owesAt () t0_0.castSucc ⊢ OW (F := F) c 0 := by
  unfold Dat.owesAt Pipeline.owesWithin OW
  rw [show (dats m ρ 0 c).owed t0_0.castSucc = owe c 0 from rfl]
  iintro ⟨%W', -, HO⟩
  iexists W'
  iexact HO
theorem owes_out : OW (F := F) c 23 ⊢ (dats m ρ 0 c).owesAt () t0_0.succ := by
  unfold Dat.owesAt Pipeline.owesWithin OW
  rw [show (dats m ρ 0 c).owed t0_0.succ = 0 from rfl, owe_end]
  iintro ⟨%W', HO⟩
  iexists W'
  isplitr
  · ipureintro; exact fun _ _ => Or.inl trivial
  iexact HO

theorem run_body (K : Dev nD × Fin 10 → ℕ) :
    iprop(Inv (xstg m ρ) (wstg m ρ) K ∗ levAts L lv ∗ OW c 0 ∗ ats (F := F) c ∗ toks (F := F) c ∗ claims (F := F) c ∗ scr (F := F) c
        ∗ (WB c cc0_stg0_0 (xstg m ρ c) ∗ WB c cc0_stg1_0 (wstg m ρ c) ∗ WE (F := F) c cc0_stg2_0))
      ⊢ Wp c (phases c >>= fun _ => (.ret ⟨⟩ : PR F PUnit)) (fun _ => bodyPost m ρ c) := by
  iintro ⟨#HI, Hrest⟩
  iapply (wp_phases (xstg m ρ) (wstg m ρ) K c (Kp := (.ret ⟨⟩ : PR F PUnit)) (Q := fun _ => bodyPost m ρ c)) $$ [Hrest]
  · isplitr; · iexact HI
    iexact Hrest
  iintro ⟨HO, HD, HS, Hx, Hw, Ho⟩
  have hret : iprop(|={Set.univ}=> bodyPost m ρ c) ⊢ Wp c (.ret ⟨⟩ : PR F PUnit) (fun _ => bodyPost m ρ c) := by
    unfold Wp; rw [wp_ret]
  iapply hret
  imod (close_all (xstg m ρ) (wstg m ρ) K c) $$ [HD] with HZ
  · isplitr; · iexact HI
    iexact HD
  imodintro
  unfold bodyPost Φ₁ ostg
  isplitl [HZ HS]
  · isplitl [HZ] <;> iassumption
  isplitl [HO]; · iapply (owes_out m ρ c); iexact HO
  isplitl [Hx]; · iapply (WB_stg c cc0_stg0_0 (xstg m ρ c)); iexact Hx
  isplitl [Hw]; · iapply (WB_stg c cc0_stg1_0 (wstg m ρ c)); iexact Hw
  iapply (WB_stg c cc0_stg2_0 (outV (xstg m ρ) (wstg m ρ) c)); iexact Ho

set_option maxRecDepth 65536 in
/-- The kernel's obligation on device `c`. -/
theorem body_obligation : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ (c : Thread nD τ) none) Set.univ
    (cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15) (fun _ => bodyPost m ρ c)
  rw [body_eq]
  simp only [Prog.lift, Prog.bind_op, Prog.bind_ret, wp_deviceId]
  rw [show phases c = (phases c >>= fun _ => (.ret ⟨⟩ : PR F PUnit)) from (bind_pure (phases (F := F) c)).symm]
  unfold bodyPre Φ₀ start
  iintro ⟨⟨⟨⟨%K, HI, Ha, Ht⟩, Hc, Hl⟩, Hs⟩, HO, ⟨%d0, Hx⟩, ⟨%d1, Hw⟩, ⟨%d2, Ho⟩⟩
  rw [before_0, before_1]
  iapply (run_body m ρ c K)
  isplitl [HI]; · iexact HI
  isplitl [Hl]; · iexact Hl
  isplitl [HO]; · iapply (owes_in m ρ c); iexact HO
  isplitl [Ha]; · iexact Ha
  isplitl [Ht]; · iexact Ht
  isplitl [Hc]; · iexact Hc
  isplitl [Hs]; · iexact Hs
  isplitl [Hx]; · iapply (stg_WB c cc0_stg0_0 (xstg m ρ c)); iexact Hx
  isplitl [Hw]; · iapply (stg_WB c cc0_stg1_0 (wstg m ρ c)); iexact Hw
  iapply (stg_WE c cc0_stg2_0 _); iexact Ho
end Ob

end Cert.KernelIdeal.Hand

end
-- ==== Proof.ILaunch.lean ====
/-
# The run of the whole mesh

The launch: the cells' rounds funded, their tokens dealt to those who pay with them, the credit of the
arrivals taken from what the others owe, and from these and the kernel's obligation the run.
-/
module

public import proofs.«01_k».proof.Proof.IOblig
public import Idealize.ShloMosaic.Lib.Pipeline.CollectiveSegs
@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x32 .bf16) (W : Dev nD → Vec F S32x1024 .bf16)

variable (m : (ℓ : Loc nD τ sig) → Buf (Elt F) ℓ) (ρ : Dev nD → PrngReg)

/-! ## The launch element -/

/-- The kernel's own semaphores: all cells but the barrier's. -/
def osem (i : Fin 9) : SemLoc sig := csem i.succ
theorem ownSemFacts : Pipeline.OwnSemFacts cfg0.spec osem := by decide
theorem share_eq (c : Dev nD) (w : Fin cfg0.W) : (dats m ρ 0 c).share w = fullShare := by unfold Dat.share; split <;> rfl

theorem csem_inj : Function.Injective csem := fun a b h => Fin.ext (by rw [← jx_csem a, ← jx_csem b, h])
theorem kcell_injective : Function.Injective (kcell : Dev nD × Fin 10 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

set_option backward.proofsInPublic true in
/-- The cell and duty of the return of send `i`. -/
def qj (i : Fin 16) : Fin 10 := if i.val < 12 then 1 else if i.val < 15 then 6 else 8
set_option backward.proofsInPublic true in
def qd (i : Fin 16) : Fin 12 := ⟨(if i.val < 12 then i.val else if i.val < 15 then i.val - 12 else 0) % 12, Nat.mod_lt _ (by decide)⟩
/-- The cell and duty of a token. -/
def tc (x : Fin 23 ⊕ Fin 16) : Fin 10 × Fin 12 := match x with | .inl i => (pj i, pd i) | .inr i => (qj i, qd i)
theorem tc_inj : ∀ x y : Fin 23 ⊕ Fin 16, tc x = tc y → x = y := by decide +kernel
/-- The tokens of a device's own cells. -/
abbrev tokOf (x : Dev nD × (Fin 23 ⊕ Fin 16)) : GSem nD τ sig × ℕ × Fin 12 := (kcell (x.1, (tc x.2).1), 0, (tc x.2).2)
theorem tokOf_injective : Function.Injective tokOf := by
  rintro ⟨c, k⟩ ⟨c', k'⟩ h
  have h1 := kcell_injective (congrArg (fun y : GSem nD τ sig × ℕ × Fin 12 => y.1) h)
  have h2 : (tc k).2 = (tc k').2 := congrArg (fun y : GSem nD τ sig × ℕ × Fin 12 => y.2.2) h
  have h3 : c = c' := congrArg Prod.fst h1
  have h4 : (tc k).1 = (tc k').1 := congrArg Prod.snd h1
  rw [h3, tc_inj k k' (Prod.ext h4 h2)]
def ringToks : Finset (GSem nD τ sig × ℕ × Fin 12) := Finset.univ.map ⟨tokOf, tokOf_injective⟩

def u₀ : UU := (initOf (Pipeline.cells cfgs cellOf_inj) (Pipeline.launchToks cfgs cellOf_inj), initOf ringCells ringToks)

/-- The tokens of device `c`'s own cells. -/
def mint (c : Dev nD) : sProp 𝕄 := bigSep Finset.univ fun x : Fin 23 ⊕ Fin 16 => dutyTok ER (kcell (c, (tc x).1)) 0 (tc x).2
/-- The starts of its cells. -/
def atAll (c : Dev nD) : sProp 𝕄 := bigSep Finset.univ fun k : Fin 10 => atPos ER (kcell (c, k)) 0 ∅ 0

def G (c : Dev nD) : sProp 𝕄 :=
  iprop((bigSep Finset.univ fun k : Fin 10 => roundState ER (Rd (xstg m ρ) (wstg m ρ)) (kcell (c, k)) 0)
    ∗ (bigSep Finset.univ fun k : Fin 10 => iprop(atPos ER (kcell (c, k)) 0 ∅ 0 ∗ reached ER (kcell (c, k)) 0)) ∗ mint (F := F) c)
def G' (c : Dev nD) : sProp 𝕄 := iprop(∃ K, Inv (xstg m ρ) (wstg m ρ) K ∗ ats (F := F) c ∗ toks (F := F) c)

omit [FloatOps F] in
theorem sep_10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem sep_23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ
omit [FloatOps F] in
theorem sep_16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 10 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint (F := F) c := by
    unfold ringToks; rw [bigSep_map, bigSep_univ_prod]; rfl
  iintro HX
  imod (Rounds.fund ER (Rd (xstg m ρ) (wstg m ρ)) ringCells ringToks) $$ HX with ⟨Hst, Hr, Hat, Htok⟩
  imodintro
  ihave Hst' := (Entails.of_eq (hX fun g => roundState ER (Rd (xstg m ρ) (wstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0) := by
  rw [Pipeline.ownSems0_eq_of_list c osem [0, 1, 2, 3, 4, 5, 6, 7, 8] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 10 => semVal (kcell (c, k)) 0 : sProp 𝕄) := by
  rw [ownSems0_eq, unscopedSems0_eq, sep_10]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ mint (F := F) c) := by
  have halloc : iprop((bigSep Finset.univ fun k : Fin 10 => semVal (kcell (c, k)) 0) ∗ bigSep Finset.univ fun k : Fin 10 => roundState ER (Rd (xstg m ρ) (wstg m ρ)) (kcell (c, k)) 0)
      ⊢ (|={Set.univ}=> bigSep Finset.univ fun k => iprop(∃ κ : ℕ, cellInv ER (Rd (xstg m ρ) (wstg m ρ)) κ (kcell (c, k))) : sProp 𝕄) := by
    rw [← bigSep_sep']
    exact (bigSep_mono fun k _ => (Rounds.body_intro ER (Rd (xstg m ρ) (wstg m ρ)) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

omit [FloatOps F] in
theorem ats_of (c : Dev nD) : atAll (F := F) c ⊢ ats (F := F) c := by
  unfold atAll ats
  rw [sep_10]
  iintro ⟨P0, P1, P2, P3, P4, P5, P6, P7, P8, P9⟩
  isplitl [P0]; · iexact P0
  isplitl [P1]; · iexact P1
  isplitl [P2 P3 P4 P5]
  · isplitl [P2]; · iexact P2
    isplitl [P3]; · iexact P3
    isplitl [P4]; · iexact P4
    iexact P5
  isplitl [P6]; · iexact P6
  isplitl [P7]; · iexact P7
  isplitl [P8]; · iexact P8
  iexact P9

/-- The tokens a device pays with: those of the arrival cells of others, and of its own send cells. -/
def paid (c : Dev nD) : sProp 𝕄 :=
  iprop((bigSep Finset.univ fun i : Fin 23 => dutyTok ER (pcell c i) 0 (pd i)) ∗ bigSep Finset.univ fun i : Fin 16 => dutyTok ER (kcell (c, qj i)) 0 (qd i))

omit [FloatOps F] in
/-- The tokens dealt to those who pay with them. -/
theorem mint_paid : (bigSep Finset.univ fun c : Dev nD => mint (F := F) c) = bigSep Finset.univ fun c : Dev nD => paid (F := F) c := by
  have h1 : ∀ c : Dev nD, mint (F := F) c = iprop((bigSep Finset.univ fun i : Fin 23 => dutyTok ER (kcell (c, pj i)) 0 (pd i)) ∗ bigSep Finset.univ fun i : Fin 16 => dutyTok ER (kcell (c, qj i)) 0 (qd i)) :=
    fun c => bigSep_univ_sum _
  rw [bigSep_congr (s := Finset.univ) (fun c _ => h1 c)]
  unfold paid
  rw [bigSep_sep', bigSep_sep']
  refine congrArg (fun P => iprop(P ∗ bigSep Finset.univ fun c : Dev nD => bigSep Finset.univ fun i : Fin 16 => (dutyTok ER (kcell (c, qj i)) 0 (qd i) : sProp 𝕄))) ?_
  rw [BI.bigSep_univ_comm (fun (c : Dev nD) (i : Fin 23) => (dutyTok ER (kcell (c, pj i)) 0 (pd i) : sProp 𝕄)),
    BI.bigSep_univ_comm (fun (c : Dev nD) (i : Fin 23) => (dutyTok ER (pcell c i) 0 (pd i) : sProp 𝕄))]
  exact bigSep_congr fun i _ => bigSep_univ_equiv (hop i) (fun c : Dev nD => (dutyTok ER (kcell (c, pj i)) 0 (pd i) : sProp 𝕄))

omit [FloatOps F] in
theorem toks_of (c : Dev nD) : paid (F := F) c ⊢ toks (F := F) c := by
  unfold paid toks tokB toks1 tok1 tok2 tok3
  rw [sep_23, sep_16]
  iintro ⟨⟨A0, A1, A2, A3, A4, A5, A6, A7, A8, A9, A10, A11, A12, A13, A14, A15, A16, A17, A18, A19, A20, A21, A22⟩, ⟨S0, S1, S2, S3, S4, S5, S6, S7, S8, S9, S10, S11, S12, S13, S14, S15⟩⟩
  isplitl [A0 A1 A2 A3 A4 A5 A6]
  · isplitl [A0]
    · iexact A0
    isplitl [A1]
    · iexact A1
    isplitl [A2]
    · iexact A2
    isplitl [A3]
    · iexact A3
    isplitl [A4]
    · iexact A4
    isplitl [A5]
    · iexact A5
    iexact A6
  isplitl [S0 A7 S1 A8 S2 A9 S3 A10 S4 A11 S5 A12 S6 A13 S7 A14 S8 A15 S9 A16 S10 A17 S11 A18]
  · isplitl [S0 A7 S1 A8 S2 A9]
    · isplitl [S0 A7]
      · isplitl [S0]
        · iexact S0
        iexact A7
      isplitl [S1 A8]
      · isplitl [S1]
        · iexact S1
        iexact A8
      isplitl [S2]
      · iexact S2
      iexact A9
    isplitl [S3 A10 S4 A11 S5 A12]
    · isplitl [S3 A10]
      · isplitl [S3]
        · iexact S3
        iexact A10
      isplitl [S4 A11]
      · isplitl [S4]
        · iexact S4
        iexact A11
      isplitl [S5]
      · iexact S5
      iexact A12
    isplitl [S6 A13 S7 A14 S8 A15]
    · isplitl [S6 A13]
      · isplitl [S6]
        · iexact S6
        iexact A13
      isplitl [S7 A14]
      · isplitl [S7]
        · iexact S7
        iexact A14
      isplitl [S8]
      · iexact S8
      iexact A15
    isplitl [S9 A16]
    · isplitl [S9]
      · iexact S9
      iexact A16
    isplitl [S10 A17]
    · isplitl [S10]
      · iexact S10
      iexact A17
    isplitl [S11]
    · iexact S11
    iexact A18
  isplitl [S12 A19 S13 A20 S14 A21]
  · isplitl [S12 A19]
    · isplitl [S12]
      · iexact S12
      iexact A19
    isplitl [S13 A20]
    · isplitl [S13]
      · iexact S13
      iexact A20
    isplitl [S14]
    · iexact S14
    iexact A21
  isplitl [S15]
  · iexact S15
  iexact A22

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 10 → ℕ) (c : Dev nD) : iprop(Inv (xstg m ρ) (wstg m ρ) K ∗ (atAll (F := F) c ∗ paid (F := F) c)) ⊢ G' m ρ c := by
  unfold G'
  iintro ⟨#HI, Ha, Ht⟩
  iexists K
  isplitr; · iexact HI
  isplitl [Ha]; · iapply (ats_of c); iexact Ha
  iapply (toks_of c); iexact Ht

theorem regroup :
    (bigSep Finset.univ fun c : Dev nD => iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ mint (F := F) c) : sProp 𝕄)
      ⊢ bigSep Finset.univ (G' m ρ) := by
  rw [bigSep_sep', bigSep_sep', ← bigSep_univ_prod (fun ck : Dev nD × Fin 10 => iprop(∃ κ : ℕ, cellInv ER (Rd (xstg m ρ) (wstg m ρ)) κ (kcell ck))),
    bigSep_congr (s := Finset.univ) (fun (c : Dev nD) _ => bigSep_sep' Finset.univ (fun k : Fin 10 => (atPos ER (kcell (c, k)) 0 ∅ 0 : sProp 𝕄)) (fun k => reached ER (kcell (c, k)) 0)),
    bigSep_sep', ← bigSep_univ_prod (fun ck : Dev nD × Fin 10 => (reached ER (kcell ck) 0 : sProp 𝕄)), mint_paid]
  iintro ⟨HI, ⟨Hat, #HR⟩, Htk⟩
  ihave HK := (BI.bigSep_exists_pi Finset.univ (fun (ck : Dev nD × Fin 10) (κ : ℕ) => (cellInv ER (Rd (xstg m ρ) (wstg m ρ)) κ (kcell ck) : sProp 𝕄))) $$ HI
  icases HK with ⟨%K, #HI⟩
  iapply (with_persistent (R := Inv (xstg m ρ) (wstg m ρ) K) fun c _ => G'_intro m ρ K c)
  isplitr
  · unfold Inv
    rw [bigSep_sep']
    isplitl; · iexact HI
    iexact HR
  · rw [bigSep_sep']
    isplitl [Hat]; · unfold atAll; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What device `d` owes at launch. -/
def O₀ (d : Dev nD) : CellTallies nD τ sig Unit := owe d 0
/-- What all devices together pay into cell `j` of one device. -/
def tot (j : Fin 10) : ℕ := ∑ i : Fin 23, if pj i = j then pam i else 0

omit [FloatOps F] in
theorem owed_one (d c : Dev nD) (i : Fin 23) (j : Fin 10) : (tallyAt (pcell d i) () (pam i) : CellTallies nD τ sig Unit) (kcell (c, j)) () = if d = src c i then (if pj i = j then pam i else 0) else 0 := by
  rw [tallyAt_apply]
  by_cases h : kcell (c, j) = pcell d i
  · have h' := kcell_injective h
    have h1 : c = tgt d i := congrArg Prod.fst h'
    have h2 : j = pj i := congrArg Prod.snd h'
    rw [if_pos ⟨h, rfl⟩, if_pos (by rw [h1, src_tgt]), if_pos h2.symm]
  · rw [if_neg fun h' => h h'.1]
    by_cases h1 : d = src c i
    · rw [if_pos h1, if_neg fun h2 => h (by rw [h1, ← h2]; unfold pcell; rw [tgt_src])]
    · rw [if_neg h1]
omit [FloatOps F] in
theorem launch_at (c : Dev nD) (j : Fin 10) :
    tallyOn (kcell (c, j)) (launchCredit (Pipeline.owing O₀) 0 (kcell (c, j))) = (tallyAt (kcell (c, j)) () (tot j) : CellTallies nD τ sig Unit) := by
  have h : ∀ d : Dev nD, O₀ d (kcell (c, j)) () = ∑ i : Fin 23, if d = src c i then (if pj i = j then pam i else 0) else 0 := by
    intro d
    unfold O₀ owe
    rw [Finset.sum_apply, Finsupp.finset_sum_apply, Finset.filter_true_of_mem fun i _ => Nat.zero_le _]
    exact Finset.sum_congr rfl fun i _ => owed_one d c i j
  unfold tallyAt; refine congrArg _ (Finsupp.ext fun u => ?_); cases u
  rw [Pipeline.launchCredit_owing, Finsupp.single_eq_same, Finset.sum_congr rfl fun d _ => h d, Finset.sum_comm]
  unfold tot
  refine Finset.sum_congr rfl fun i _ => ?_
  rw [Finset.sum_ite_eq' Finset.univ (src c i), if_pos (Finset.mem_univ _)]

/-- The totals of the cells waited on with launch credit. -/
theorem tot_0 : tot 0 = 7 := by decide
theorem tot_R (k : Fin 4) : tot (c1 k) = N1 + (N1f + N1) := by
  unfold tot pam amt
  generalize N1 = a, N1f = b, N2 = e, N3 = f
  fin_cases k <;> simp [Fin.sum_univ_succ, pj, pd, c1] <;> omega
theorem tot_7 : tot 7 = N2 + (N2 + N2) := by
  unfold tot pam amt
  generalize N1 = a, N1f = b, N2 = e, N3 = f
  simp [Fin.sum_univ_succ, pj, pd, c1]
theorem tot_9 : tot 9 = N3 := by
  unfold tot pam amt
  generalize N1 = a, N1f = b, N2 = e, N3 = f
  simp [Fin.sum_univ_succ, pj, pd, c1]

omit [FloatOps F] in
theorem cred_cut3 (g : GSem nD τ sig) (a b e : ℕ) : (cred (tallyAt g () (a + (b + e))) : sProp 𝕄) ⊢ iprop(cred (tallyAt g () a) ∗ cred (tallyAt g () b) ∗ cred (tallyAt g () e)) := by
  rw [← tallyAt_add, ← tallyAt_add]
  exact (cred_add _ _).1.trans (sep_mono_right (cred_add _ _).1)

omit [FloatOps F] in
theorem creds (c : Dev nD) : (Pipeline.launchCred O₀ c : sProp 𝕄) ⊢ claims (F := F) c := by
  have hsub : (Pipeline.launchCred O₀ c : sProp 𝕄) ⊢ bigSep Finset.univ fun j : Fin 10 => cred (tallyAt (kcell (c, j)) () (tot j)) := by
    unfold Pipeline.launchCred
    refine (BI.bigSep_subset (Finset.subset_univ (Finset.univ.map ⟨csem, csem_inj⟩))).trans ?_
    rw [bigSep_map]
    exact bigSep_mono fun j _ => Entails.of_eq (congrArg cred (launch_at c j))
  have hR : ∀ k : Fin 4, (cred (tallyAt (kcell (c, c1 k)) () (tot (c1 k))) : sProp 𝕄) ⊢ credR (F := F) c k := fun k => by
    rw [tot_R]; exact cred_cut3 _ _ _ _
  have h7 : (cred (tallyAt (kcell (c, 7)) () (tot 7)) : sProp 𝕄) ⊢ cred3 (F := F) c 7 N2 := by
    rw [tot_7]; exact cred_cut3 _ _ _ _
  have h0 : (cred (tallyAt (kcell (c, 0)) () (tot 0)) : sProp 𝕄) ⊢ cred (tallyAt (kcell (c, 0)) () 7) := by rw [tot_0]
  have h9 : (cred (tallyAt (kcell (c, 9)) () (tot 9)) : sProp 𝕄) ⊢ cred (tallyAt (kcell (c, 9)) () N3) := by rw [tot_9]
  refine hsub.trans ?_
  rw [sep_10]
  unfold claims
  iintro ⟨C0, C1, C2, C3, C4, C5, C6, C7, C8, C9⟩
  isplitl [C0]; · iapply h0; iexact C0
  isplitl [C2 C3 C4 C5]
  · isplitl [C2]; · iapply (hR 0); iexact C2
    isplitl [C3]; · iapply (hR 1); iexact C3
    isplitl [C4]; · iapply (hR 2); iexact C4
    iapply (hR 3); iexact C5
  isplitl [C7]; · iapply h7; iexact C7
  iapply h9; iexact C9

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scr_eq (c : Dev nD) : (Pipeline.scopedRest (Ix := Unit) (Name := ℕ) (U := UU) (Lvl := ℕ) (Val := Elt F) cfg0.spec c : sProp 𝕄) ⊣⊢ scr (F := F) c := by
  rw [scopedRest0_eq]
  unfold scr
  simp only [WE_ex]
  constructor
  · iintro ⟨H0, H1, H2, H3, H4, H5, H6, H7, H8, H9⟩
    isplitl [H0]; · iexact H0
    isplitl [H1]; · iexact H1
    isplitl [H2 H3]; · isplitl [H2] <;> iassumption
    isplitl [H4 H5 H7]
    · isplitl [H4]; · iexact H4
      isplitl [H5] <;> iassumption
    isplitl [H6]; · iexact H6
    isplitl [H8]; · iexact H8
    iexact H9
  · iintro ⟨H0, H1, ⟨H2, H3⟩, ⟨H4, H5, H7⟩, H6, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_eq c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁ zeros
  iintro ⟨⟨H0, Hz⟩, Hr⟩
  isplitl [H0]; · iexact H0
  isplitl [Hz]; · iexact Hz
  iapply (scr_eq c).2; iexact Hr

theorem stage_bottom : ∀ (w : Fin cfg0.W) (s : Fin (cfg0.win w).nbuf), jx (.dma ((cfg0.win w).sem s)) = 10 := by decide
theorem stage_below : ∀ i : Fin 23, lvj 10 < lvj (pj i).val := by decide
theorem waits (c : Dev nD) : (levAts L lv : sProp 𝕄) ⊢ Pipeline.cellsWaits cfgs (dats m ρ) () 0 c :=
  Pipeline.cellsWaits_intro cfgs (dats m ρ) () 0 c fun w s t => by
    have hlow : ∀ n, ∀ i : Fin 23, n ≤ i.val → lvj (jx (.dma ((cfg0.win w).sem s))) < lvj (pj i).val := fun n i _ => by
      rw [stage_bottom w s]; exact stage_below i
    rcases t with ⟨_ | _, ht⟩
    · exact mayWait c (.dma ((cfg0.win w).sem s)) 0 (hlow 0)
    · have h := mayWait (F := F) c (.dma ((cfg0.win w).sem s)) 23 (hlow 23)
      rw [owe_end] at h
      exact h

/-! ## The run -/

/-- What window `w`'s array of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution on the 32 devices ends, with every array
    at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = (s₀ m ρ).mem (win0_0.arr.view.loc (c : Thread nD τ)) := (dats (F := F) m ρ 0 c).arrAt_in (0 : Fin 3) rfl _
theorem final_w (c : Dev nD) : finalA m ρ c (1 : Fin 3) = (s₀ m ρ).mem (win0_1.arr.view.loc (c : Thread nD τ)) := (dats (F := F) m ρ 0 c).arrAt_in (1 : Fin 3) rfl _

end Cert.KernelIdeal.Hand

end
-- ==== Proof.IResult.lean ====
/-
# What the run leaves in the result array
-/
module

public import proofs.«01_k».proof.Proof.ILaunch
public import Idealize.ShloMosaic.Lib.Pipeline.Value

@[expose] public section

noncomputable section

namespace Cert.KernelIdeal.Hand

open Cert.KernelIdeal Cert.KernelIdeal.Gen
open Idealize.ShloMosaic
open Idealize.ShloMosaic.TcCoe

variable {F : FTy → Type} [FloatOps F] (m : (ℓ : Loc nD τ sig) → Buf (Elt F) ℓ) (ρ : Dev nD → PrngReg)

/-- A window over a whole array reads the array. -/
theorem xstg_eq (c : Dev nD) : xstg m ρ c = m ((c : Thread nD τ).loc main_arg0) := by
  funext i
  exact congrArg (m ((c : Thread nD τ).loc main_arg0)) (funext fun a => Fin.ext (Pipeline.Window.rect_emb_val_of_index_zero win0_0 (0 : Fin 1) a rfl i))
theorem wstg_eq (c : Dev nD) : wstg m ρ c = m ((c : Thread nD τ).loc main_arg1) := by
  funext i
  exact congrArg (m ((c : Thread nD τ).loc main_arg1)) (funext fun a => Fin.ext (Pipeline.Window.rect_emb_val_of_index_zero win0_1 (0 : Fin 1) a rfl i))

/-- The result array ends with the kernel's result. -/
theorem final_out (c : Dev nD) : finalA m ρ c (2 : Fin 3) = ostg m ρ c := by
  unfold finalA
  refine (dats m ρ 0 c).arrAt_eq_of_cover (2 : Fin 3) (ostg m ρ c) (fun t _ => ?_) (fun i => ⟨t0_0, flush0_2 t0_0, ?_⟩)
  · obtain rfl := fin_N0 t
    funext i
    exact congrArg (ostg m ρ c) (funext fun a => Fin.ext (Pipeline.Window.rect_emb_val_of_index_zero win0_2 (0 : Fin 1) a rfl i).symm)
  · have hi : ((cfg0.win (2 : Fin 3)).blk t0_0).view.emb i = i :=
      funext fun a => Fin.ext (Pipeline.Window.rect_emb_val_of_index_zero win0_2 (0 : Fin 1) a rfl i)
    exact hi ▸ ((cfg0.win (2 : Fin 3)).blk t0_0).view.emb_mem_set i

end Cert.KernelIdeal.Hand

end
-- ==== Proof.IMath.lean ====
/-
# The value over the reals: one device's product, read at an index
-/
module

public import proofs.«01_k».proof.Proof.IVal
public import Idealize.ShloMosaic.PureOps.Ideal.Laws
public import Idealize.ShloMosaic.Lib.ValueIdx
public import Idealize.ShloMosaic.Lib.Pointwise

@[expose] public section

noncomputable section

namespace Cert.KernelIdeal.Hand

open Cert.KernelIdeal Cert.KernelIdeal.Gen
open Idealize.ShloMosaic
open Idealize.ShloMosaic.TcCoe

variable (X : Dev nD → Vec Ideal S1024x32 .bf16) (W : Dev nD → Vec Ideal S32x1024 .bf16)

/-- Row `r`, column `k` of a device's part of the first factor. -/
def ixX (r : ℕ) (k : Fin 32) : S1024x32.Idx := fun a => match a with | 0 => (⟨r % 1024, Nat.mod_lt _ (by decide)⟩ : Fin 1024) | 1 => k
/-- Row `k`, column `x` of a device's part of the second. -/
def ixW (k : Fin 32) (x : Fin 1024) : S32x1024.Idx := fun a => match a with | 0 => k | 1 => x

/-- Device `d`'s share of row `y` of block `b` of the product, at column `x`. -/
def P (d : Dev nD) (b : ℕ) (y : Fin 32) (x : Fin 1024) : EReal := ∑ k : Fin 32, X d (ixX (32 * b + y.val) k) * W d (ixW k x)

theorem x3_eq (c : Dev nD) (r : ℕ) (y k : Fin 32) (hr : r < 32) : x3 X c r y k = X c (ixX (32 * r + y.val) k) := by
  have hy := y.isLt
  unfold x3 k0_pay1
  simp only [shapeCast_self]
  refine shapeCast_apply _ _ _ (ixX (32 * r + y.val) k) ?_
  refine (Shape.rowMajor_val_two _).trans (Eq.trans ?_ (Shape.rowMajor_val_three _).symm)
  show (32 * r + y.val) % 1024 * 32 + k.val = (r % 32 * 32 + y.val) * 32 + k.val
  omega

/-- Rows and columns of the round's product of 256 rows. -/
def ixP (i : S2x4x32x1024.Idx) : S256x1024.Idx := fun a => match a with
  | 0 => (⟨(128 * (i 0).val + 32 * (i 1).val + (i 2).val) % 256, Nat.mod_lt _ (by decide)⟩ : Fin 256)
  | 1 => i 3
def ixQ (r : Fin 256) (k : Fin 32) : S256x32.Idx := fun a => match a with | 0 => r | 1 => k
def ix8 (b : Fin 8) (y k : Fin 32) : S8x32x32.Idx := fun a => match a with | 0 => b | 1 => y | 2 => k

theorem lhs_eq (i : S2x4x32x1024.Idx) (q : dot_S256x32_S32x1024_S256x1024_1_0_0_1_n_n.contr.Idx) (k : Fin 32) (hk : (q ⟨0, by decide⟩).val = k.val) :
    dot_S256x32_S32x1024_S256x1024_1_0_0_1_n_n.lhsIdx (ixP i) q = ixQ (ixP i 0) k := funext fun a => Fin.ext (by
  match a with
  | ⟨0, _⟩ => rfl
  | ⟨1, _⟩ => exact hk)
theorem rhs_eq (i : S2x4x32x1024.Idx) (q : dot_S256x32_S32x1024_S256x1024_1_0_0_1_n_n.contr.Idx) (k : Fin 32) (hk : (q ⟨0, by decide⟩).val = k.val) :
    dot_S256x32_S32x1024_S256x1024_1_0_0_1_n_n.rhsIdx (ixP i) q = ixW k (i 3) := funext fun a => Fin.ext (by
  match a with
  | ⟨0, _⟩ => exact hk
  | ⟨1, _⟩ => rfl)

/-- A round's product at an index is the device's share of the block it belongs to. -/
theorem pz_eq (c : Dev nD) (z : ℕ) (hz : z < 4) (i : S2x4x32x1024.Idx) :
    pz X W c z i = P X W c (8 * z + 4 * (i 0).val + (i 1).val) (i 2) (i 3) := by
  have i0 : (i 0).val < 2 := (i 0).isLt
  have i1 : (i 1).val < 4 := (i 1).isLt
  have i2 : (i 2).val < 32 := (i 2).isLt
  have i3 : (i 3).val < 1024 := (i 3).isLt
  unfold pz k0_pay3 k0_pay2
  simp only [shapeCast_self]
  refine (shapeCast_apply _ _ i (ixP i) ?_).trans ?_
  · refine (Shape.rowMajor_val_two _).trans (Eq.trans ?_ (Shape.rowMajor_val_four _).symm)
    show (128 * (i 0).val + 32 * (i 1).val + (i 2).val) % 256 * 1024 + (i 3).val = (((i 0).val * 4 + (i 1).val) * 32 + (i 2).val) * 1024 + (i 3).val
    omega
  · simp only [matmul]
    rw [Ideal.matmul_constant_zero_apply, ← Equiv.sum_comp (ValueIdx.contrEquiv1 dot_S256x32_S32x1024_S256x1024_1_0_0_1_n_n 32 rfl rfl).symm]
    unfold P
    refine Finset.sum_congr rfl fun k _ => ?_
    have hk := ValueIdx.contrEquiv1_symm_val dot_S256x32_S32x1024_S256x1024_1_0_0_1_n_n 32 rfl rfl k
    have hkl := k.isLt
    rw [lhs_eq i _ k hk, rhs_eq i _ k hk]
    refine congrArg (fun a : EReal => a * W c (ixW k (i 3))) ?_
    refine (shapeCast_apply _ _ _ (ix8 ⟨4 * (i 0).val + (i 1).val, by omega⟩ (i 2) k) ?_).trans ?_
    · refine (Shape.rowMajor_val_three _).trans (Eq.trans ?_ (Shape.rowMajor_val_two _).symm)
      show ((4 * (i 0).val + (i 1).val) * 32 + (i 2).val) * 32 + k.val = (128 * (i 0).val + 32 * (i 1).val + (i 2).val) % 256 * 32 + k.val
      omega
    · refine (x3_eq X c (8 * z + (4 * (i 0).val + (i 1).val)) (i 2) k (by omega)).trans ?_
      rw [← Nat.add_assoc]

end Cert.KernelIdeal.Hand

end
-- ==== Proof.ISum.lean ====
/-
# The value over the reals: what each buffer of the exchange holds, as sums of the devices' shares
-/
module

public import proofs.«01_k».proof.Proof.IMath

@[expose] public section

noncomputable section

namespace Cert.KernelIdeal.Hand

open Cert.KernelIdeal Cert.KernelIdeal.Gen
open Idealize.ShloMosaic
open Idealize.ShloMosaic.TcCoe

variable (X : Dev nD → Vec Ideal S1024x32 .bf16) (W : Dev nD → Vec Ideal S32x1024 .bf16)

/-! ## Reading the reshapes -/

theorem cast_drop {α : Type} (v : S1x32x1024.Idx → α) (h : S1x32x1024.ShapeCasts S32x1024) (y : Fin 32) (x : Fin 1024) :
    shapeCast S32x1024 v h (ixW y x) = v (ix1 y x) := by
  refine shapeCast_apply _ _ _ _ ?_
  refine (Shape.rowMajor_val_three _).trans (Eq.trans ?_ (Shape.rowMajor_val_two _).symm)
  show (0 * 32 + y.val) * 1024 + x.val = y.val * 1024 + x.val
  omega
theorem cast_add {α : Type} (v : S32x1024.Idx → α) (h : S32x1024.ShapeCasts S1x32x1024) (y : Fin 32) (x : Fin 1024) :
    shapeCast S1x32x1024 v h (ix1 y x) = v (ixW y x) := by
  refine shapeCast_apply _ _ _ _ ?_
  refine (Shape.rowMajor_val_two _).trans (Eq.trans ?_ (Shape.rowMajor_val_three _).symm)
  show y.val * 1024 + x.val = (0 * 32 + y.val) * 1024 + x.val
  omega
theorem ixW_eta (j : S32x1024.Idx) : ixW (j 0) (j 1) = j := by
  funext a
  fin_cases a <;> rfl

/-- Block `b` of a round's product in column `l`, row `y`, column `x`. -/
def ix4 (b : Fin 2) (l : Fin 4) (y : Fin 32) (x : Fin 1024) : S2x4x32x1024.Idx := fun a => match a with | 0 => b | 1 => l | 2 => y | 3 => x
def ixs (b : Fin 2) (y : Fin 32) (x : Fin 1024) : S2x1x32x1024.Idx := fun a => match a with | 0 => b | 1 => (0 : Fin 1) | 2 => y | 3 => x
def ixt (y : Fin 32) (x : Fin 1024) : S1x1x32x1024.Idx := fun a => match a with | 0 => (0 : Fin 1) | 1 => (0 : Fin 1) | 2 => y | 3 => x

theorem prodRow_apply (pg : FVec Ideal S2x4x32x1024 .f32) (l : Fin 4) (b : Fin 2) (y : Fin 32) (x : Fin 1024) :
    prodRow pg l b (ixW y x) = pg (ix4 b l y x) := by
  unfold prodRow
  refine (shapeCast_apply _ _ _ (ixt y x) ?_).trans (extractStridedSlice_apply _ _ _ _ _ ?_)
  · refine (Shape.rowMajor_val_four _).trans (Eq.trans ?_ (Shape.rowMajor_val_two _).symm)
    show ((0 * 1 + 0) * 32 + y.val) * 1024 + x.val = y.val * 1024 + x.val
    omega
  · intro a
    match a with
    | ⟨0, _⟩ => show b.val = b.val + 0; omega
    | ⟨1, _⟩ => show l.val = l.val + 0; omega
    | ⟨2, _⟩ => show y.val = 0 + y.val; omega
    | ⟨3, _⟩ => show x.val = 0 + x.val; omega

/-- A column of a round's product, both blocks. -/
theorem slice_apply (pg : FVec Ideal S2x4x32x1024 .f32) (off : Fin 4 → ℕ) (l : Fin 4) (ho : off = ![0, l.val, 0, 0]) (hs : S2x4x32x1024.Slices off S2x1x32x1024) (h : S2x1x32x1024.ShapeCasts S2x32x1024) (b : Fin 2) (y : Fin 32) (x : Fin 1024) :
    shapeCast S2x32x1024 (extractStridedSlice S2x1x32x1024 off pg hs) h (ix2 b y x) = pg (ix4 b l y x) := by
  subst ho
  refine (shapeCast_apply _ _ _ (ixs b y x) ?_).trans (extractStridedSlice_apply _ _ _ _ _ ?_)
  · refine (Shape.rowMajor_val_four _).trans (Eq.trans ?_ (Shape.rowMajor_val_three _).symm)
    show ((b.val * 1 + 0) * 32 + y.val) * 1024 + x.val = (b.val * 32 + y.val) * 1024 + x.val
    omega
  · intro a
    match a with
    | ⟨0, _⟩ => show b.val = 0 + b.val; omega
    | ⟨1, _⟩ => show l.val = l.val + 0; omega
    | ⟨2, _⟩ => show y.val = 0 + y.val; omega
    | ⟨3, _⟩ => show x.val = 0 + x.val; omega

theorem place_tests : ∀ c : Dev nD,
    Scalar.cmpi .eq (qword c) 0#32 = (if ql c = 0 then 1#1 else 0#1) ∧ Scalar.cmpi .eq (qword c) 2#32 = (if ql c = 2 then 1#1 else 0#1)
      ∧ Scalar.cmpi .slt (qword c) 2#32 = (if ql c < 2 then 1#1 else 0#1) := by decide +kernel

theorem ql_lt (c : Dev nD) : ql c < 4 := Nat.mod_lt _ (by decide)

/-- The kernel's choice among the four columns takes the device's own. -/
theorem payA_apply (c : Dev nD) (pg : FVec Ideal S2x4x32x1024 .f32) (b : Fin 2) (y : Fin 32) (x : Fin 1024) :
    payA c pg (ix2 b y x) = pg (ix4 b ⟨ql c, ql_lt c⟩ y x) := by
  obtain ⟨h0, h2, hlt⟩ := place_tests c
  have hq := ql_lt c
  unfold payA k0_pay26 k0_pay24 k0_pay25
  simp only [shapeCast_self]
  rw [h0, h2, hlt]
  rcases (by omega : ql c = 0 ∨ ql c = 1 ∨ ql c = 2 ∨ ql c = 3) with h | h | h | h
  · rw [show (⟨ql c, ql_lt c⟩ : Fin 4) = 0 from Fin.ext h]; simp only [h]
    exact slice_apply pg ![0, 0, 0, 0] 0 rfl slices_S2x4x32x1024_o0_0_0_0_S2x1x32x1024 shapeCasts_S2x1x32x1024_S2x32x1024 b y x
  · rw [show (⟨ql c, ql_lt c⟩ : Fin 4) = 1 from Fin.ext h]; simp only [h]
    exact slice_apply pg ![0, 1, 0, 0] 1 rfl slices_S2x4x32x1024_o0_1_0_0_S2x1x32x1024 shapeCasts_S2x1x32x1024_S2x32x1024 b y x
  · rw [show (⟨ql c, ql_lt c⟩ : Fin 4) = 2 from Fin.ext h]; simp only [h]
    exact slice_apply pg ![0, 2, 0, 0] 2 rfl slices_S2x4x32x1024_o0_2_0_0_S2x1x32x1024 shapeCasts_S2x1x32x1024_S2x32x1024 b y x
  · rw [show (⟨ql c, ql_lt c⟩ : Fin 4) = 3 from Fin.ext h]; simp only [h]
    exact slice_apply pg ![0, 3, 0, 0] 3 rfl slices_S2x4x32x1024_o0_3_0_0_S2x1x32x1024 shapeCasts_S2x1x32x1024_S2x32x1024 b y x

/-! ## The buffers -/

theorem pz_ix4 (c : Dev nD) (z : ℕ) (hz : z < 4) (b : Fin 2) (l : Fin 4) (y : Fin 32) (x : Fin 1024) :
    pz X W c z (ix4 b l y x) = P X W c (8 * z + 4 * b.val + l.val) y x := pz_eq X W c z hz (ix4 b l y x)

theorem S1V_eq (c : Dev nD) (r : ℕ) (y : Fin 32) (x : Fin 1024) :
    S1V X W c r y x = P X W c (8 * (r % 8 / 2) + 4 * (r % 2) + r / 8 % 4) y x := by
  unfold S1V payH
  rw [cast_add, truncf_apply]
  exact (prodRow_apply _ _ _ y x).trans (pz_ix4 X W c _ (by omega) _ _ y x)
theorem F1V_eq (c : Dev nD) (r : ℕ) (y : Fin 32) (x : Fin 1024) :
    F1V X W c r y x = P X W c (8 * (r % 8 / 2) + 4 * (r % 2) + r / 8 % 4) y x := by
  unfold F1V payQ
  rw [cast_add, truncf_apply]
  exact (prodRow_apply _ _ _ y x).trans (pz_ix4 X W c _ (by omega) _ _ y x)
theorem A1V_eq (c : Dev nD) (r : ℕ) (hr : r < 8) (y : Fin 32) (x : Fin 1024) :
    A1V X W c r y x = P X W c (8 * (r / 2) + 4 * (r % 2) + ql c) y x := by
  unfold A1V
  exact (payA_apply c _ _ y x).trans (pz_ix4 X W c _ (by omega) _ _ y x)

theorem from_block (c : Dev nD) (r : ℕ) :
    8 * (fromRow c r % 8 / 2) + 4 * (fromRow c r % 2) + fromRow c r / 8 % 4 = 8 * zn c (r % 8 / 2) + 4 * (r % 2) + ql c := by
  obtain ⟨h1, h2, h3⟩ := pr_facts c (ql c) (r % 8 / 2) (parOf r) (ql_lt c)
  have h : (parOf r).val = r % 2 := rfl
  rw [h] at h1 h2 h3
  unfold fromRow
  rw [h1, h2, h3]

theorem R1V_eq (c : Dev nD) (r : ℕ) (y : Fin 32) (x : Fin 1024) :
    R1V X W c r y x = P X W (sq c (if r < 8 then 1 else 3)) (8 * zn c (r % 8 / 2) + 4 * (r % 2) + ql c) y x := by
  unfold R1V
  rw [S1V_eq, from_block]
theorem G1V_eq (c : Dev nD) (r : ℕ) (y : Fin 32) (x : Fin 1024) :
    G1V X W c r y x = P X W (sq c 2) (8 * zn c (r % 8 / 2) + 4 * (r % 2) + ql c) y x := by
  unfold G1V
  rw [F1V_eq, from_block]

/-- The shares of one block that the devices of `c`'s square hold. -/
def Q (c : Dev nD) (b : ℕ) (y : Fin 32) (x : Fin 1024) : EReal :=
  P X W c b y x + P X W (sq c 1) b y x + P X W (sq c 2) b y x + P X W (sq c 3) b y x

theorem S2V_eq (c : Dev nD) (r : ℕ) (hr : r < 6) (y : Fin 32) (x : Fin 1024) :
    S2V X W c r y x = Q X W c (8 * zn c (r / 2) + 4 * (r % 2) + ql c) y x := by
  have hz := zn_lt c (r / 2)
  unfold S2V k0_pay95
  rw [cast_add]
  simp only [truncf_apply, addf_apply, extf_apply, cast_drop]
  show A1V X W c (2 * zn c (r / 2) + r % 2) y x + R1V X W c r y x + G1V X W c r y x + R1V X W c (16 + r) y x = _
  rw [A1V_eq X W c _ (by omega), R1V_eq, R1V_eq, G1V_eq, if_pos (by omega), if_neg (by omega)]
  unfold Q
  rw [show (2 * zn c (r / 2) + r % 2) / 2 = zn c (r / 2) by omega, show (2 * zn c (r / 2) + r % 2) % 2 = r % 2 by omega,
    show r % 8 / 2 = r / 2 by omega, show (16 + r) % 8 / 2 = r / 2 by omega, show (16 + r) % 2 = r % 2 by omega]

theorem zn_own (c : Dev nD) : zn c 3 = zi c := by
  have hc : c.val < 32 := c.isLt
  unfold zn zi; omega
theorem zn_back : ∀ (c : Dev nD) (j : Fin 3), zn (zp c (1 + j.val)) (2 - j.val) = zi c := by decide +kernel
theorem ql_zp : ∀ (c : Dev nD) (j : Fin 4), ql (zp c j.val) = ql c := by decide +kernel
theorem fl_facts : ∀ c : Dev nD, ql (fl c) = ql c ∧ zi (fl c) = zi c ∧ 1 - qh (fl c) = qh c ∧ 8 * zi c + 4 * qh c + ql c = c.val ∧ qh c < 2 ∧ zi c < 4 := by decide +kernel

theorem R2V_eq (c : Dev nD) (r : ℕ) (hr : r < 6) (y : Fin 32) (x : Fin 1024) :
    R2V X W c r y x = Q X W (zp c (1 + r / 2)) (8 * zi c + 4 * (r % 2) + ql c) y x := by
  unfold R2V
  rw [S2V_eq X W _ _ (by omega)]
  have h1 := zn_back c ⟨r / 2, by omega⟩
  have h2 := ql_zp c ⟨1 + r / 2, by omega⟩
  simp only at h1 h2
  rw [show (2 * (2 - r / 2) + r % 2) / 2 = 2 - r / 2 by omega, show (2 * (2 - r / 2) + r % 2) % 2 = r % 2 by omega, h1, h2]

theorem A2V_eq (c : Dev nD) (r : ℕ) (hr : r / 2 = zi c) (y : Fin 32) (x : Fin 1024) :
    A2V X W c r y x = Q X W c (8 * zi c + 4 * (r % 2) + ql c) y x := by
  obtain ⟨-, -, -, -, -, hz⟩ := fl_facts c
  unfold A2V k0_pay106
  rw [cast_add]
  simp only [addf_apply, extf_apply, cast_drop]
  show A1V X W c r y x + (R1V X W c (6 + r % 2) y x + G1V X W c (6 + r % 2) y x + R1V X W c (22 + r % 2) y x) = _
  rw [A1V_eq X W c _ (by omega), R1V_eq, R1V_eq, G1V_eq, if_pos (by omega), if_neg (by omega)]
  unfold Q
  rw [hr, show (6 + r % 2) % 8 / 2 = 3 by omega, show (22 + r % 2) % 8 / 2 = 3 by omega, show (6 + r % 2) % 2 = r % 2 by omega,
    show (22 + r % 2) % 2 = r % 2 by omega, zn_own]
  simp only [add_assoc]

/-- The shares of one block over the four planes, at the places of `c`'s square. -/
def T (c : Dev nD) (b : ℕ) (y : Fin 32) (x : Fin 1024) : EReal :=
  Q X W c b y x + Q X W (zp c 1) b y x + Q X W (zp c 2) b y x + Q X W (zp c 3) b y x

/-- What a device adds up of one of its two blocks. -/
theorem four_planes (c : Dev nD) (e : ℕ) (he : e < 2) (y : Fin 32) (x : Fin 1024) :
    A2V X W c (2 * zn c 3 + e) y x + R2V X W c e y x + R2V X W c (2 + e) y x + R2V X W c (4 + e) y x = T X W c (8 * zi c + 4 * e + ql c) y x := by
  obtain ⟨-, -, -, -, -, hz⟩ := fl_facts c
  rw [zn_own, A2V_eq X W c _ (by omega), R2V_eq X W c _ (by omega), R2V_eq X W c _ (by omega), R2V_eq X W c _ (by omega)]
  unfold T
  rw [show (2 * zi c + e) % 2 = e by omega, show e % 2 = e by omega, show (2 + e) % 2 = e by omega, show (4 + e) % 2 = e by omega,
    show 1 + e / 2 = 1 by omega, show 1 + (2 + e) / 2 = 2 by omega, show 1 + (4 + e) / 2 = 3 by omega]

theorem S3V_eq (c : Dev nD) (y : Fin 32) (x : Fin 1024) :
    S3V X W c (ixW y x) = T X W c (8 * zi c + 4 * (1 - qh c) + ql c) y x := by
  unfold S3V k0_pay108 k0_pay107
  simp only [shapeCast_self, truncf_apply, addf_apply, extf_apply, cast_drop]
  exact four_planes X W c (1 - qh c) (by omega) y x

/-- The kernel's result on device `c`: the sum of all the devices' shares of its block, and zero where that is negative. -/
theorem outV_eq (c : Dev nD) (y : Fin 32) (x : Fin 1024) :
    outV X W c (ixW y x) = max (T X W c c.val y x + T X W (fl c) c.val y x) 0 := by
  obtain ⟨h1, h2, h3, h4, h5, -⟩ := fl_facts c
  unfold outV k0_pay109
  simp only [shapeCast_self, maximumf_apply, addf_apply, extf_apply, cast_drop, R3V]
  refine congrArg₂ max (congrArg₂ (fun a b : EReal => a + b) ?_ ?_) ?_
  · exact (four_planes X W c (qh c) h5 y x).trans (by rw [h4])
  · exact (S3V_eq X W (fl c) y x).trans (by rw [h1, h2, h3, h4])
  · exact Ideal.ofBits_zero_f32

end Cert.KernelIdeal.Hand

end
-- ==== Proof.ITotal.lean ====
/-
# The value over the reals: the kernel's result is the block of the whole product
-/
module

public import proofs.«01_k».proof.Proof.ISum
public import Idealize.ShloMosaic.Lib.Layout

@[expose] public section

noncomputable section

namespace Cert.KernelIdeal.Hand

open Cert.KernelIdeal Cert.KernelIdeal.Gen
open Idealize.ShloMosaic
open Idealize.ShloMosaic.TcCoe

variable (X : Dev nD → Vec Ideal S1024x32 .bf16) (W : Dev nD → Vec Ideal S32x1024 .bf16)

/-- The thirty-two places counted from `c`: by square of the plane, by plane, by place in the square. -/
def place (c : Dev nD) (p : Fin 2 × Fin 4 × Fin 4) : Dev nD := sq (zp (if p.1 = 0 then c else fl c) p.2.1.val) p.2.2.val

theorem place_inj : ∀ (c : Dev nD) (p p' : Fin 2 × Fin 4 × Fin 4), place c p = place c p' → p = p' := by decide +kernel
theorem place_bij (c : Dev nD) : Function.Bijective (place c) :=
  (Fintype.bijective_iff_injective_and_card _).2 ⟨fun p p' => place_inj c p p', by decide⟩
theorem sq_zero : ∀ c : Dev nD, sq c 0 = c := by decide +kernel
theorem zp_zero : ∀ c : Dev nD, zp c 0 = c := by decide +kernel

/-- A sum over the devices, taken in the kernel's order. -/
theorem sum_devices (c : Dev nD) (f : Dev nD → EReal) :
    (∑ d : Dev nD, f d) = ∑ e : Fin 2, ∑ k : Fin 4, ∑ d : Fin 4, f (place c (e, k, d)) := by
  rw [← (Equiv.ofBijective (place c) (place_bij c)).sum_comp f, Fintype.sum_prod_type]
  refine Finset.sum_congr rfl fun e _ => ?_
  rw [Fintype.sum_prod_type]
  rfl

theorem place_sum (a : Dev nD) (f : Dev nD → EReal) :
    (∑ d : Fin 4, f (sq a d.val)) = f a + f (sq a 1) + f (sq a 2) + f (sq a 3) := by
  rw [Fin.sum_univ_four]
  show f (sq a 0) + f (sq a 1) + f (sq a 2) + f (sq a 3) = _
  rw [sq_zero]

/-- What the kernel adds up is every device's share, once. -/
theorem all_devices (c : Dev nD) (b : ℕ) (y : Fin 32) (x : Fin 1024) :
    T X W c b y x + T X W (fl c) b y x = ∑ d : Dev nD, P X W d b y x := by
  have hT : ∀ a : Dev nD, (∑ k : Fin 4, ∑ d : Fin 4, P X W (sq (zp a k.val) d.val) b y x) = T X W a b y x := fun a => by
    have hk : ∀ k : Fin 4, (∑ d : Fin 4, P X W (sq (zp a k.val) d.val) b y x) = Q X W (zp a k.val) b y x := fun k =>
      place_sum (zp a k.val) fun d => P X W d b y x
    rw [Fin.sum_univ_four, hk, hk, hk, hk]
    show Q X W (zp a 0) b y x + Q X W (zp a 1) b y x + Q X W (zp a 2) b y x + Q X W (zp a 3) b y x = _
    rw [zp_zero]
    rfl
  rw [sum_devices c, Fin.sum_univ_two, ← hT c, ← hT (fl c)]
  rfl

/-- An index of a whole array of 1024 rows and columns. -/
abbrev WholeIdx := (⟨2, ![1024, 1024]⟩ : Shape).Idx
def ixG (r k : Fin 1024) : WholeIdx := fun a => match a with | 0 => r | 1 => k

/-- Row `y` of block `c`. -/
def rowG (c : Dev nD) (y : Fin 32) : Fin 1024 := ⟨32 * c.val + y.val, by have hc : c.val < 32 := c.isLt; have := y.isLt; omega⟩
/-- Place `k` of device `d`'s part of the summed axis. -/
def colG (d : Dev nD) (k : Fin 32) : Fin 1024 := ⟨32 * d.val + k.val, by have hd : d.val < 32 := d.isLt; have := k.isLt; omega⟩

/-- The summed axis, device by device. -/
def parts : Dev nD × Fin 32 → Fin 1024 := fun p => colG p.1 p.2
theorem parts_bij : Function.Bijective parts :=
  (Fintype.bijective_iff_injective_and_card _).2 ⟨fun p p' h => by
    have h1 : 32 * p.1.val + p.2.val = 32 * p'.1.val + p'.2.val := congrArg Fin.val h
    have := p.2.isLt
    have := p'.2.isLt
    exact Prod.ext (Fin.ext (by omega)) (Fin.ext (by omega)), by decide⟩

/-- The devices' shares of a row of block `c` add up to that row of the whole product. -/
theorem shares_sum (x0 x1 : WholeIdx → EReal)
    (hX : ∀ c : Dev nD, X c = Layout.block S1024x32 ⟨2, ![1024, 1024]⟩ 1 32 c x0) (hW : ∀ c : Dev nD, W c = Layout.block S32x1024 ⟨2, ![1024, 1024]⟩ 0 32 c x1)
    (c : Dev nD) (y : Fin 32) (x : Fin 1024) :
    (∑ d : Dev nD, P X W d c.val y x) = ∑ k : Fin 1024, x0 (ixG (rowG c y) k) * x1 (ixG k x) := by
  have hc : c.val < 32 := c.isLt
  have hy := y.isLt
  rw [← (Equiv.ofBijective parts parts_bij).sum_comp fun k => x0 (ixG (rowG c y) k) * x1 (ixG k x), Fintype.sum_prod_type]
  refine Finset.sum_congr rfl fun d _ => ?_
  unfold P
  refine Finset.sum_congr rfl fun k _ => ?_
  rw [hX, hW]
  refine congrArg₂ (fun a b : EReal => a * b) (congrArg x0 (funext fun a => Fin.ext ?_)) (congrArg x1 (funext fun a => Fin.ext ?_))
  · match a with
    | ⟨0, _⟩ => show (32 * c.val + y.val) % 1024 = 32 * c.val + y.val; omega
    | ⟨1, _⟩ => show d.val * 32 + k.val = 32 * d.val + k.val; omega
  · match a with
    | ⟨0, _⟩ => show d.val * 32 + k.val = 32 * d.val + k.val; omega
    | ⟨1, _⟩ => rfl

/-- The kernel's result on device `c` is block `c` of the whole product's positive part. -/
theorem out_block (x0 x1 : WholeIdx → EReal)
    (hX : ∀ c : Dev nD, X c = Layout.block S1024x32 ⟨2, ![1024, 1024]⟩ 1 32 c x0) (hW : ∀ c : Dev nD, W c = Layout.block S32x1024 ⟨2, ![1024, 1024]⟩ 0 32 c x1)
    (v : WholeIdx → EReal) (hv : ∀ r x : Fin 1024, v (ixG r x) = max (∑ k : Fin 1024, x0 (ixG r k) * x1 (ixG k x)) 0) (c : Dev nD) :
    outV X W c = Layout.block S32x1024 ⟨2, ![1024, 1024]⟩ 0 32 c v := by
  funext j
  obtain ⟨y, x, rfl⟩ : ∃ (y : Fin 32) (x : Fin 1024), j = ixW y x := ⟨j 0, j 1, (ixW_eta j).symm⟩
  rw [outV_eq, all_devices, shares_sum X W x0 x1 hX hW, ← hv]
  refine congrArg v (funext fun a => Fin.ext ?_)
  match a with
  | ⟨0, _⟩ => show 32 * c.val + y.val = c.val * 32 + y.val; omega
  | ⟨1, _⟩ => rfl

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KLaunch
public import proofs.«01_k».proof.Proof.IResult
public import proofs.«01_k».proof.Proof.ITotal
public import Idealize.ShloMosaic.Adequacy
public import Idealize.ShloMosaic.Lib.Quiescent
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel over machine words ends, on all thirty-two devices, with its arguments unchanged and every counter at zero. -/
theorem frame_Kernel : Cert.quiescent_Kernel := by
  intro m ρ _
  exact (θ_run Cert.Kernel.defs _ _).mono (fun _ h => ⟨fun c => ⟨(h.1 c (0 : Fin 3)).trans (Cert.Kernel.Hand.final_x m ρ c), (h.1 c (1 : Fin 3)).trans (Cert.Kernel.Hand.final_w m ρ c)⟩, h.2⟩)
    (Cert.Kernel.Hand.run_main (F := Bits) m ρ)

/-- So does the kernel over the extended reals. -/
theorem frame_KernelIdeal : Cert.quiescent_KernelIdeal := by
  intro m ρ _
  exact (θ_run Cert.KernelIdeal.defs _ _).mono (fun _ h => ⟨fun c => ⟨(h.1 c (0 : Fin 3)).trans (Cert.KernelIdeal.Hand.final_x m ρ c), (h.1 c (1 : Fin 3)).trans (Cert.KernelIdeal.Hand.final_w m ρ c)⟩, h.2⟩)
    (Cert.KernelIdeal.Hand.run_main (F := Ideal) m ρ)

/-- The reference ends with its arguments unchanged; it has no counters. -/
theorem frame_ReferenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's result at an index, over the reals: the product's entry, and zero where that is negative. -/
theorem reference_apply (x0 x1 : Cert.KernelIdeal.Hand.WholeIdx → EReal) (r x : Fin 1024) :
    Cert.ReferenceIdeal.Read.val_main_v4 (F := Ideal) x0 x1 (Cert.KernelIdeal.Hand.ixG r x)
      = max (∑ k : Fin 1024, x0 (Cert.KernelIdeal.Hand.ixG r k) * x1 (Cert.KernelIdeal.Hand.ixG k x)) 0 := by
  rw [Cert.ReferenceIdeal.Read.val_main_v4_apply, Cert.ReferenceIdeal.Read.val_main_v2_apply, Cert.ReferenceIdeal.Read.val_main_v1_apply,
    Cert.ReferenceIdeal.Read.val_main_v0_apply, Cert.ReferenceIdeal.Read.val_main_v3_apply, Cert.ReferenceIdeal.Read.val_main_cst_apply]
  refine congrArg₂ max (Finset.sum_congr rfl fun k _ => ?_) Ideal.ofBits_zero_f32
  refine congrArg₂ (fun a b : EReal => a * b) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-- Over the extended reals each device's result is its thirty-two rows of the reference's. -/
theorem algebraic : Cert.algebraic_KernelIdeal_ReferenceIdeal := by
  intro m ρ m' ρ' _ hm
  refine ⟨Cert.ReferenceIdeal.Read.val_main_v4 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  rotate_left
  · exact (θ_run Cert.ReferenceIdeal.defs _ _).mono (fun r h => ⟨(h 0).1.trans (Cert.ReferenceIdeal.Read.val_main_v4_eq _ _), (h 0).2⟩)
      (Cert.ReferenceIdeal.Value.run (F := Ideal) m' ρ')
  · refine (θ_run Cert.KernelIdeal.defs _ _).mono (fun _ h c => ⟨(h.1 c (2 : Fin 3)).trans ((Cert.KernelIdeal.Hand.final_out m ρ c).trans ?_),
      (h.1 c (0 : Fin 3)).trans (Cert.KernelIdeal.Hand.final_x m ρ c), (h.1 c (1 : Fin 3)).trans (Cert.KernelIdeal.Hand.final_w m ρ c)⟩)
      (Cert.KernelIdeal.Hand.run_main (F := Ideal) m ρ)
    exact Cert.KernelIdeal.Hand.out_block _ _ _ _ (fun d => (Cert.KernelIdeal.Hand.xstg_eq m ρ d).trans (hm d).1)
      (fun d => (Cert.KernelIdeal.Hand.wstg_eq m ρ d).trans (hm d).2) _ (reference_apply _ _) c

theorem claim : Cert.Claim :=
  ⟨Cert.Kernel.Gen.facts, Cert.KernelIdeal.Gen.facts, Cert.ReferenceIdeal.Gen.facts, frame_Kernel, frame_KernelIdeal, frame_ReferenceIdeal, trivial, algebraic⟩

end Cert.Proof

end
